-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_codes" .f32 0x37E38E39#32 ((1 / 36864 : ℝ) : EReal)
  ∧ IdealRules.named_const.Statement Cert.KernelIdeal.κ "inv_entries" .f32 0x34E38E39#32 ((1 / 2359296 : ℝ) : EReal)

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v148) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S16x576x256 : Shape := ⟨3, ![16, 576, 256]⟩
abbrev S4x512x256 : Shape := ⟨3, ![4, 512, 256]⟩
abbrev S256 : Shape := ⟨1, ![256]⟩
abbrev S_ : Shape := ⟨0, ![]⟩

class Facts : Prop where
  bcast_S_S4x512x256 : S_.BroadcastsInDim S4x512x256 (![] : Fin 0 → Fin S4x512x256.rank)

variable [Facts]

def fn {F : FTy → Type} [FloatOps F] (main_arg0 : FVec F S16x576x256 .f32) (main_arg1 : FVec F S4x512x256 .f32) (main_arg2 : FVec F S256 .f32) : IVec S4x512x256 1 :=
  let main_v0 : FVec F S4x512x256 .f32 := Host.absf main_arg1
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  main_v2
-- ==== Kernel.lean ====
abbrev S16x576x256 : Shape := ⟨3, ![16, 576, 256]⟩
abbrev S4x512x256 : Shape := ⟨3, ![4, 512, 256]⟩
abbrev S256 : Shape := ⟨1, ![256]⟩
abbrev S9216x256 : Shape := ⟨2, ![9216, 256]⟩
abbrev S9216x4 : Shape := ⟨2, ![9216, 4]⟩
abbrev S9216x1 : Shape := ⟨2, ![9216, 1]⟩
abbrev S1x512 : Shape := ⟨2, ![1, 512]⟩
abbrev S1x1 : Shape := ⟨2, ![1, 1]⟩
abbrev S1536x256 : Shape := ⟨2, ![1536, 256]⟩
abbrev S1536x4 : Shape := ⟨2, ![1536, 4]⟩
abbrev S1536x1 : Shape := ⟨2, ![1536, 1]⟩
abbrev S4x512 : Shape := ⟨2, ![4, 512]⟩
abbrev S768x512 : Shape := ⟨2, ![768, 512]⟩
abbrev S768x256 : Shape := ⟨2, ![768, 256]⟩
abbrev S768x1 : Shape := ⟨2, ![768, 1]⟩
abbrev S512 : Shape := ⟨1, ![512]⟩
abbrev S768 : Shape := ⟨1, ![768]⟩
abbrev S1x512x256 : Shape := ⟨3, ![1, 512, 256]⟩
abbrev S512x256 : Shape := ⟨2, ![512, 256]⟩
abbrev S768x4 : Shape := ⟨2, ![768, 4]⟩
abbrev S1x768x256 : Shape := ⟨3, ![1, 768, 256]⟩
abbrev S1 : Shape := ⟨1, ![1]⟩
abbrev S1x1x1 : Shape := ⟨3, ![1, 1, 1]⟩
abbrev S1x1x512 : Shape := ⟨3, ![1, 1, 512]⟩
abbrev S16x576 : Shape := ⟨2, ![16, 576]⟩
abbrev S4x9216 : Shape := ⟨2, ![4, 9216]⟩
abbrev S4x16x576 : Shape := ⟨3, ![4, 16, 576]⟩
abbrev S_ : Shape := ⟨0, ![]⟩

abbrev nBuf : Space → Nat
  | .hbm => 19
  | .vmem => 18
  | .smem => 0
  | _ => 0

abbrev bufTy : (tb : Table) → Fin (tcTables nBuf tb) → BufTy
  | .hbm, ⟨0, _⟩ => ⟨S16x576x256, .f32⟩
  | .hbm, ⟨1, _⟩ => ⟨S4x512x256, .f32⟩
  | .hbm, ⟨2, _⟩ => ⟨S256, .f32⟩
  | .hbm, ⟨3, _⟩ => ⟨S9216x256, .f32⟩
  | .hbm, ⟨4, _⟩ => ⟨S9216x256, .f32⟩
  | .hbm, ⟨5, _⟩ => ⟨S9216x4, .i32⟩
  | .hbm, ⟨6, _⟩ => ⟨S9216x1, .i32⟩
  | .hbm, ⟨7, _⟩ => ⟨S1x512, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S16x576x256, .f32⟩
  | .hbm, ⟨12, _⟩ => ⟨S16x576, .i32⟩
  | .hbm, ⟨13, _⟩ => ⟨S4x9216, .i32⟩
  | .hbm, ⟨14, _⟩ => ⟨S4x16x576, .i32⟩
  | .hbm, ⟨15, _⟩ => ⟨S_, .i1⟩
  | .hbm, ⟨16, _⟩ => ⟨S16x576, .i1⟩
  | .hbm, ⟨17, _⟩ => ⟨S_, .f32⟩
  | .hbm, ⟨18, _⟩ => ⟨S_, .f32⟩
  | .local _ .vmem, ⟨0, _⟩ => ⟨S1536x256, .f32⟩
  | .local _ .vmem, ⟨1, _⟩ => ⟨S1536x256, .f32⟩
  | .local _ .vmem, ⟨2, _⟩ => ⟨S4x512x256, .f32⟩
  | .local _ .vmem, ⟨3, _⟩ => ⟨S1536x256, .f32⟩
  | .local _ .vmem, ⟨4, _⟩ => ⟨S1536x256, .f32⟩
  | .local _ .vmem, ⟨5, _⟩ => ⟨S1536x4, .i32⟩
  | .local _ .vmem, ⟨6, _⟩ => ⟨S1536x4, .i32⟩
  | .local _ .vmem, ⟨7, _⟩ => ⟨S1536x1, .i32⟩
  | .local _ .vmem, ⟨8, _⟩ => ⟨S1536x1, .i32⟩
  | .local _ .vmem, ⟨9, _⟩ => ⟨S1x512, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S4x512x256, .f32⟩
  | .local _ .vmem, ⟨14, _⟩ => ⟨S4x512x256, .f32⟩
  | .local _ .vmem, ⟨15, _⟩ => ⟨S4x512x256, .f32⟩
  | .local _ .vmem, ⟨16, _⟩ => ⟨S4x512, .f32⟩
  | .local _ .vmem, ⟨17, _⟩ => ⟨S4x512x256, .f32⟩
  | _, _ => ⟨S16x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v370 : BitVec 1 := Scalar.cmpi .eq arg0 c5_i32
  let v371 : BitVec 32 := Scalar.extui v370
  let c0_i32_198 : BitVec 32 := 0#32
  let v372 : BitVec 1 := Scalar.cmpi .ne v371 c0_i32_198
  v372

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_codes" => some ((1 / 36864 : ℝ) : EReal)
  | "inv_entries" => some ((1 / 2359296 : ℝ) : EReal)
  | _ => none
-- ==== ReferenceIdeal.lean ====
abbrev S16x576x256 : Shape := ⟨3, ![16, 576, 256]⟩
abbrev S4x512x256 : Shape := ⟨3, ![4, 512, 256]⟩
abbrev S256 : Shape := ⟨1, ![256]⟩
abbrev S9216x256 : Shape := ⟨2, ![9216, 256]⟩
abbrev S_ : Shape := ⟨0, ![]⟩
abbrev S512 : Shape := ⟨1, ![512]⟩
abbrev S1x512x256 : Shape := ⟨3, ![1, 512, 256]⟩
abbrev S512x256 : Shape := ⟨2, ![512, 256]⟩
abbrev S9216 : Shape := ⟨1, ![9216]⟩
abbrev S9216x1 : Shape := ⟨2, ![9216, 1]⟩
abbrev S256x512 : Shape := ⟨2, ![256, 512]⟩
abbrev S9216x512 : Shape := ⟨2, ![9216, 512]⟩
abbrev S1x512 : Shape := ⟨2, ![1, 512]⟩
abbrev S1 : Shape := ⟨1, ![1]⟩
abbrev S1x1 : Shape := ⟨2, ![1, 1]⟩
abbrev S16x576 : Shape := ⟨2, ![16, 576]⟩
abbrev S1x16x576 : Shape := ⟨3, ![1, 16, 576]⟩
abbrev S4x16x576 : Shape := ⟨3, ![4, 16, 576]⟩

abbrev nBuf : Space → Nat
  | .hbm => 312
  | .vmem => 0
  | .smem => 0
  | _ => 0

abbrev hbmTy0_0 (i : Nat) : BufTy := match i % 128 with
  | 0 => ⟨S16x576x256, .f32⟩
  | 1 => ⟨S4x512x256, .f32⟩
  | 2 => ⟨S256, .f32⟩
  | 3 => ⟨S9216x256, .f32⟩
  | 4 => ⟨S_, .f32⟩
  | 5 => ⟨S9216x256, .f32⟩
  | 6 => ⟨S_, .f32⟩
  | 7 => ⟨S512, .f32⟩
  | 8 => ⟨S1x512x256, .f32⟩
  | 9 => ⟨S512x256, .f32⟩
  | 10 => ⟨S9216x256, .f32⟩
  | 11 => ⟨S_, .f32⟩
  | 12 => ⟨S9216, .f32⟩
  | 13 => ⟨S9216x1, .f32⟩
  | 14 => ⟨S_, .f32⟩
  | 15 => ⟨S9216x256, .f32⟩
  | 16 => ⟨S9216x256, .f32⟩
  | 17 => ⟨S256x512, .f32⟩
  | 18 => ⟨S9216x512, .f32⟩
  | 19 => ⟨S9216x512, .f32⟩
  | 20 => ⟨S9216x512, .f32⟩
  | 21 => ⟨S512x256, .f32⟩
  | 22 => ⟨S_, .f32⟩
  | 23 => ⟨S512, .f32⟩
  | 24 => ⟨S1x512, .f32⟩
  | 25 => ⟨S9216x512, .f32⟩
  | 26 => ⟨S9216x512, .f32⟩
  | 27 => ⟨S9216x512, .i32⟩
  | 28 => ⟨S_, .f32⟩
  | 29 => ⟨S_, .i32⟩
  | 30 => ⟨S9216, .f32⟩
  | 31 => ⟨S9216, .i32⟩
  | 32 => ⟨S_, .i32⟩
  | 33 => ⟨S9216, .i32⟩
  | 34 => ⟨S9216, .i1⟩
  | 35 => ⟨S_, .i32⟩
  | 36 => ⟨S9216, .i32⟩
  | 37 => ⟨S9216, .i32⟩
  | 38 => ⟨S9216, .i32⟩
  | 39 => ⟨S9216x1, .i32⟩
  | 40 => ⟨S1, .i32⟩
  | 41 => ⟨S_, .i32⟩
  | 42 => ⟨S9216x1, .i32⟩
  | 43 => ⟨S9216x1, .i1⟩
  | 44 => ⟨S1x1, .i32⟩
  | 45 => ⟨S9216x1, .i32⟩
  | 46 => ⟨S9216x1, .i1⟩
  | 47 => ⟨S9216x1, .i1⟩
  | 48 => ⟨S_, .i1⟩
  | 49 => ⟨S9216, .i1⟩
  | 50 => ⟨S9216x256, .f32⟩
  | 51 => ⟨S9216x256, .i1⟩
  | 52 => ⟨S_, .f32⟩
  | 53 => ⟨S9216x256, .f32⟩
  | 54 => ⟨S9216x256, .f32⟩
  | 55 => ⟨S9216x256, .f32⟩
  | 56 => ⟨S9216x256, .f32⟩
  | 57 => ⟨S9216x1, .i32⟩
  | 58 => ⟨S1x512, .i32⟩
  | 59 => ⟨S9216x512, .i32⟩
  | 60 => ⟨S9216x512, .i32⟩
  | 61 => ⟨S9216x512, .i1⟩
  | 62 => ⟨S9216x512, .f32⟩
  | 63 => ⟨S_, .f32⟩
  | 64 => ⟨S512, .f32⟩
  | 65 => ⟨S_, .f32⟩
  | 66 => ⟨S512, .f32⟩
  | 67 => ⟨S512, .f32⟩
  | 68 => ⟨S512, .f32⟩
  | 69 => ⟨S1x512x256, .f32⟩
  | 70 => ⟨S512x256, .f32⟩
  | 71 => ⟨S9216x256, .f32⟩
  | 72 => ⟨S_, .f32⟩
  | 73 => ⟨S9216, .f32⟩
  | 74 => ⟨S9216x1, .f32⟩
  | 75 => ⟨S_, .f32⟩
  | 76 => ⟨S9216x256, .f32⟩
  | 77 => ⟨S9216x256, .f32⟩
  | 78 => ⟨S256x512, .f32⟩
  | 79 => ⟨S9216x512, .f32⟩
  | 80 => ⟨S9216x512, .f32⟩
  | 81 => ⟨S9216x512, .f32⟩
  | 82 => ⟨S512x256, .f32⟩
  | 83 => ⟨S_, .f32⟩
  | 84 => ⟨S512, .f32⟩
  | 85 => ⟨S1x512, .f32⟩
  | 86 => ⟨S9216x512, .f32⟩
  | 87 => ⟨S9216x512, .f32⟩
  | 88 => ⟨S9216x512, .i32⟩
  | 89 => ⟨S_, .f32⟩
  | 90 => ⟨S_, .i32⟩
  | 91 => ⟨S9216, .f32⟩
  | 92 => ⟨S9216, .i32⟩
  | 93 => ⟨S_, .i32⟩
  | 94 => ⟨S9216, .i32⟩
  | 95 => ⟨S9216, .i1⟩
  | 96 => ⟨S_, .i32⟩
  | 97 => ⟨S9216, .i32⟩
  | 98 => ⟨S9216, .i32⟩
  | 99 => ⟨S9216, .i32⟩
  | 100 => ⟨S9216x1, .i32⟩
  | 101 => ⟨S1, .i32⟩
  | 102 => ⟨S_, .i32⟩
  | 103 => ⟨S9216x1, .i32⟩
  | 104 => ⟨S9216x1, .i1⟩
  | 105 => ⟨S1x1, .i32⟩
  | 106 => ⟨S9216x1, .i32⟩
  | 107 => ⟨S9216x1, .i1⟩
  | 108 => ⟨S9216x1, .i1⟩
  | 109 => ⟨S_, .i1⟩
  | 110 => ⟨S9216, .i1⟩
  | 111 => ⟨S9216x256, .f32⟩
  | 112 => ⟨S9216x256, .i1⟩
  | 113 => ⟨S_, .f32⟩
  | 114 => ⟨S9216x256, .f32⟩
  | 115 => ⟨S9216x256, .f32⟩
  | 116 => ⟨S9216x256, .f32⟩
  | 117 => ⟨S9216x256, .f32⟩
  | 118 => ⟨S9216x1, .i32⟩
  | 119 => ⟨S1x512, .i32⟩
  | 120 => ⟨S9216x512, .i32⟩
  | 121 => ⟨S9216x512, .i32⟩
  | 122 => ⟨S9216x512, .i1⟩
  | 123 => ⟨S9216x512, .f32⟩
  | 124 => ⟨S_, .f32⟩
  | 125 => ⟨S512, .f32⟩
  | 126 => ⟨S_, .f32⟩
  | 127 => ⟨S512, .f32⟩
  | _ => ⟨S16x576x256, .f32⟩

abbrev hbmTy0_1 (i : Nat) : BufTy := match i % 128 with
  | 0 => ⟨S512, .f32⟩
  | 1 => ⟨S512, .f32⟩
  | 2 => ⟨S1x512x256, .f32⟩
  | 3 => ⟨S512x256, .f32⟩
  | 4 => ⟨S9216x256, .f32⟩
  | 5 => ⟨S_, .f32⟩
  | 6 => ⟨S9216, .f32⟩
  | 7 => ⟨S9216x1, .f32⟩
  | 8 => ⟨S_, .f32⟩
  | 9 => ⟨S9216x256, .f32⟩
  | 10 => ⟨S9216x256, .f32⟩
  | 11 => ⟨S256x512, .f32⟩
  | 12 => ⟨S9216x512, .f32⟩
  | 13 => ⟨S9216x512, .f32⟩
  | 14 => ⟨S9216x512, .f32⟩
  | 15 => ⟨S512x256, .f32⟩
  | 16 => ⟨S_, .f32⟩
  | 17 => ⟨S512, .f32⟩
  | 18 => ⟨S1x512, .f32⟩
  | 19 => ⟨S9216x512, .f32⟩
  | 20 => ⟨S9216x512, .f32⟩
  | 21 => ⟨S9216x512, .i32⟩
  | 22 => ⟨S_, .f32⟩
  | 23 => ⟨S_, .i32⟩
  | 24 => ⟨S9216, .f32⟩
  | 25 => ⟨S9216, .i32⟩
  | 26 => ⟨S_, .i32⟩
  | 27 => ⟨S9216, .i32⟩
  | 28 => ⟨S9216, .i1⟩
  | 29 => ⟨S_, .i32⟩
  | 30 => ⟨S9216, .i32⟩
  | 31 => ⟨S9216, .i32⟩
  | 32 => ⟨S9216, .i32⟩
  | 33 => ⟨S9216x1, .i32⟩
  | 34 => ⟨S1, .i32⟩
  | 35 => ⟨S_, .i32⟩
  | 36 => ⟨S9216x1, .i32⟩
  | 37 => ⟨S9216x1, .i1⟩
  | 38 => ⟨S1x1, .i32⟩
  | 39 => ⟨S9216x1, .i32⟩
  | 40 => ⟨S9216x1, .i1⟩
  | 41 => ⟨S9216x1, .i1⟩
  | 42 => ⟨S_, .i1⟩
  | 43 => ⟨S9216, .i1⟩
  | 44 => ⟨S9216x256, .f32⟩
  | 45 => ⟨S9216x256, .i1⟩
  | 46 => ⟨S_, .f32⟩
  | 47 => ⟨S9216x256, .f32⟩
  | 48 => ⟨S9216x256, .f32⟩
  | 49 => ⟨S9216x256, .f32⟩
  | 50 => ⟨S9216x256, .f32⟩
  | 51 => ⟨S9216x1, .i32⟩
  | 52 => ⟨S1x512, .i32⟩
  | 53 => ⟨S9216x512, .i32⟩
  | 54 => ⟨S9216x512, .i32⟩
  | 55 => ⟨S9216x512, .i1⟩
  | 56 => ⟨S9216x512, .f32⟩
  | 57 => ⟨S_, .f32⟩
  | 58 => ⟨S512, .f32⟩
  | 59 => ⟨S_, .f32⟩
  | 60 => ⟨S512, .f32⟩
  | 61 => ⟨S512, .f32⟩
  | 62 => ⟨S512, .f32⟩
  | 63 => ⟨S1x512x256, .f32⟩
  | 64 => ⟨S512x256, .f32⟩
  | 65 => ⟨S9216x256, .f32⟩
  | 66 => ⟨S_, .f32⟩
  | 67 => ⟨S9216, .f32⟩
  | 68 => ⟨S9216x1, .f32⟩
  | 69 => ⟨S_, .f32⟩
  | 70 => ⟨S9216x256, .f32⟩
  | 71 => ⟨S9216x256, .f32⟩
  | 72 => ⟨S256x512, .f32⟩
  | 73 => ⟨S9216x512, .f32⟩
  | 74 => ⟨S9216x512, .f32⟩
  | 75 => ⟨S9216x512, .f32⟩
  | 76 => ⟨S512x256, .f32⟩
  | 77 => ⟨S_, .f32⟩
  | 78 => ⟨S512, .f32⟩
  | 79 => ⟨S1x512, .f32⟩
  | 80 => ⟨S9216x512, .f32⟩
  | 81 => ⟨S9216x512, .f32⟩
  | 82 => ⟨S9216x512, .i32⟩
  | 83 => ⟨S_, .f32⟩
  | 84 => ⟨S_, .i32⟩
  | 85 => ⟨S9216, .f32⟩
  | 86 => ⟨S9216, .i32⟩
  | 87 => ⟨S_, .i32⟩
  | 88 => ⟨S9216, .i32⟩
  | 89 => ⟨S9216, .i1⟩
  | 90 => ⟨S_, .i32⟩
  | 91 => ⟨S9216, .i32⟩
  | 92 => ⟨S9216, .i32⟩
  | 93 => ⟨S9216, .i32⟩
  | 94 => ⟨S9216x1, .i32⟩
  | 95 => ⟨S1, .i32⟩
  | 96 => ⟨S_, .i32⟩
  | 97 => ⟨S9216x1, .i32⟩
  | 98 => ⟨S9216x1, .i1⟩
  | 99 => ⟨S1x1, .i32⟩
  | 100 => ⟨S9216x1, .i32⟩
  | 101 => ⟨S9216x1, .i1⟩
  | 102 => ⟨S9216x1, .i1⟩
  | 103 => ⟨S_, .i1⟩
  | 104 => ⟨S9216, .i1⟩
  | 105 => ⟨S9216x256, .f32⟩
  | 106 => ⟨S9216x256, .i1⟩
  | 107 => ⟨S_, .f32⟩
  | 108 => ⟨S9216x256, .f32⟩
  | 109 => ⟨S9216x256, .f32⟩
  | 110 => ⟨S9216x256, .f32⟩
  | 111 => ⟨S9216x256, .f32⟩
  | 112 => ⟨S9216x1, .i32⟩
  | 113 => ⟨S1x512, .i32⟩
  | 114 => ⟨S9216x512, .i32⟩
  | 115 => ⟨S9216x512, .i32⟩
  | 116 => ⟨S9216x512, .i1⟩
  | 117 => ⟨S9216x512, .f32⟩
  | 118 => ⟨S_, .f32⟩
  | 119 => ⟨S512, .f32⟩
  | 120 => ⟨S_, .f32⟩
  | 121 => ⟨S512, .f32⟩
  | 122 => ⟨S512, .f32⟩
  | 123 => ⟨S512, .f32⟩
  | 124 => ⟨S9216x256, .f32⟩
  | 125 => ⟨S9216x256, .f32⟩
  | 126 => ⟨S_, .f32⟩
  | 127 => ⟨S_, .f32⟩
  | _ => ⟨S16x576x256, .f32⟩

abbrev hbmTy0_2 (i : Nat) : BufTy := match i % 128 with
  | 0 => ⟨S_, .f32⟩
  | 1 => ⟨S_, .f32⟩
  | 2 => ⟨S9216x256, .f32⟩
  | 3 => ⟨S9216x256, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S9216x256, .f32⟩
  | 12 => ⟨S9216x256, .f32⟩
  | 13 => ⟨S16x576x256, .f32⟩
  | 14 => ⟨S_, .f32⟩
  | 15 => ⟨S512, .f32⟩
  | 16 => ⟨S512, .f32⟩
  | 17 => ⟨S_, .f32⟩
  | 18 => ⟨S512, .f32⟩
  | 19 => ⟨S512, .f32⟩
  | 20 => ⟨S512, .f32⟩
  | 21 => ⟨S512, .f32⟩
  | 22 => ⟨S_, .f32⟩
  | 23 => ⟨S_, .f32⟩
  | 24 => ⟨S_, .f32⟩
  | 25 => ⟨S_, .f32⟩
  | 26 => ⟨S_, .i32⟩
  | 27 => ⟨S9216, .i32⟩
  | 28 => ⟨S_, .i32⟩
  | 29 => ⟨S9216, .i32⟩
  | 30 => ⟨S9216, .i32⟩
  | 31 => ⟨S9216, .i32⟩
  | 32 => ⟨S_, .i32⟩
  | 33 => ⟨S9216, .i32⟩
  | 34 => ⟨S9216, .i32⟩
  | 35 => ⟨S9216, .i32⟩
  | 36 => ⟨S_, .i32⟩
  | 37 => ⟨S9216, .i32⟩
  | 38 => ⟨S9216, .i32⟩
  | 39 => ⟨S9216, .i32⟩
  | 40 => ⟨S_, .i32⟩
  | 41 => ⟨S9216, .i32⟩
  | 42 => ⟨S9216, .i32⟩
  | 43 => ⟨S9216, .i32⟩
  | 44 => ⟨S16x576, .i32⟩
  | 45 => ⟨S16x576, .i32⟩
  | 46 => ⟨S16x576, .i32⟩
  | 47 => ⟨S16x576, .i32⟩
  | 48 => ⟨S16x576, .i32⟩
  | 49 => ⟨S1x16x576, .i32⟩
  | 50 => ⟨S1x16x576, .i32⟩
  | 51 => ⟨S1x16x576, .i32⟩
  | 52 => ⟨S1x16x576, .i32⟩
  | 53 => ⟨S4x16x576, .i32⟩
  | 54 => ⟨S_, .i1⟩
  | 55 => ⟨S16x576, .i1⟩
  | _ => ⟨S16x576x256, .f32⟩

abbrev hbmTy (i : Nat) : BufTy := match i / 128 with
  | 0 => hbmTy0_0 i
  | 1 => hbmTy0_1 i
  | 2 => hbmTy0_2 i
  | _ => ⟨S16x576x256, .f32⟩

abbrev bufTy : (tb : Table) → Fin (tcTables nBuf tb) → BufTy
  | .hbm, ⟨i, _⟩ => hbmTy i
  | _, _ => ⟨S16x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v19 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v23 : Ref sig .tc := ⟨.hbm, 62, rfl⟩
abbrev main_cst_4 : Ref sig .tc := ⟨.hbm, 63, rfl⟩
abbrev main_v24 : Ref sig .tc := ⟨.hbm, 64, rfl⟩
abbrev main_cst_5 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_6 : Ref sig .tc := ⟨.hbm, 72, rfl⟩
abbrev main_v31 : Ref sig .tc := ⟨.hbm, 73, rfl⟩
abbrev main_v32 : Ref sig .tc := ⟨.hbm, 74, rfl⟩
abbrev main_cst_7 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_call3_v0 : Ref sig .tc := ⟨.hbm, 88, rfl⟩
abbrev main_call3_cst : Ref sig .tc := ⟨.hbm, 89, rfl⟩
abbrev main_call3_c : Ref sig .tc := ⟨.hbm, 90, rfl⟩
abbrev main_call3_v1_0 : Ref sig .tc := ⟨.hbm, 91, rfl⟩
abbrev main_v44 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_c_1 : Ref sig .tc := ⟨.hbm, 101, rfl⟩
abbrev main_call4_c_2 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_3 : Ref sig .tc := ⟨.hbm, 109, rfl⟩
abbrev main_call4_v12 : Ref sig .tc := ⟨.hbm, 110, rfl⟩
abbrev main_call4_v13 : Ref sig .tc := ⟨.hbm, 111, rfl⟩
abbrev main_call4_v14 : Ref sig .tc := ⟨.hbm, 112, rfl⟩
abbrev main_call4_cst : Ref sig .tc := ⟨.hbm, 113, rfl⟩
abbrev main_call4_v15 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_v48 : Ref sig .tc := ⟨.hbm, 123, rfl⟩
abbrev main_cst_9 : Ref sig .tc := ⟨.hbm, 124, rfl⟩
abbrev main_v49 : Ref sig .tc := ⟨.hbm, 125, rfl⟩
abbrev main_cst_10 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_11 : Ref sig .tc := ⟨.hbm, 133, rfl⟩
abbrev main_v56 : Ref sig .tc := ⟨.hbm, 134, rfl⟩
abbrev main_v57 : Ref sig .tc := ⟨.hbm, 135, rfl⟩
abbrev main_cst_12 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_cst_13 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_call6_v0 : Ref sig .tc := ⟨.hbm, 149, rfl⟩
abbrev main_call6_cst : Ref sig .tc := ⟨.hbm, 150, rfl⟩
abbrev main_call6_c : Ref sig .tc := ⟨.hbm, 151, rfl⟩
abbrev main_call6_v1_0 : Ref sig .tc := ⟨.hbm, 152, rfl⟩
abbrev main_v69 : Ref sig .tc := ⟨.hbm, 153, rfl⟩
abbrev main_call7_c : Ref sig .tc := ⟨.hbm, 154, rfl⟩
abbrev main_call7_v0 : Ref sig .tc := ⟨.hbm, 155, rfl⟩
abbrev main_call7_v1 : Ref sig .tc := ⟨.hbm, 156, rfl⟩
abbrev main_call7_c_0 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_call7_v5 : Ref sig .tc := ⟨.hbm, 161, rfl⟩
abbrev main_call7_c_1 : Ref sig .tc := ⟨.hbm, 162, rfl⟩
abbrev main_call7_c_2 : Ref sig .tc := ⟨.hbm, 163, rfl⟩
abbrev main_call7_v6 : Ref sig .tc := ⟨.hbm, 164, rfl⟩
abbrev main_call7_v7 : Ref sig .tc := ⟨.hbm, 165, rfl⟩
abbrev main_call7_v8 : Ref sig .tc := ⟨.hbm, 166, rfl⟩
abbrev main_call7_v9 : Ref sig .tc := ⟨.hbm, 167, rfl⟩
abbrev main_call7_v10 : Ref sig .tc := ⟨.hbm, 168, rfl⟩
abbrev main_call7_v11 : Ref sig .tc := ⟨.hbm, 169, rfl⟩
abbrev main_call7_c_3 : Ref sig .tc := ⟨.hbm, 170, rfl⟩
abbrev main_call7_v12 : Ref sig .tc := ⟨.hbm, 171, rfl⟩
abbrev main_call7_v13 : Ref sig .tc := ⟨.hbm, 172, rfl⟩
abbrev main_call7_v14 : Ref sig .tc := ⟨.hbm, 173, rfl⟩
abbrev main_call7_cst : Ref sig .tc := ⟨.hbm, 174, rfl⟩
abbrev main_call7_v15 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_call8_v0 : Ref sig .tc := ⟨.hbm, 179, rfl⟩
abbrev main_call8_v1 : Ref sig .tc := ⟨.hbm, 180, rfl⟩
abbrev main_call8_v2 : Ref sig .tc := ⟨.hbm, 181, rfl⟩
abbrev main_call8_v3 : Ref sig .tc := ⟨.hbm, 182, rfl⟩
abbrev main_call8_v4 : Ref sig .tc := ⟨.hbm, 183, rfl⟩
abbrev main_v73 : Ref sig .tc := ⟨.hbm, 184, rfl⟩
abbrev main_cst_14 : Ref sig .tc := ⟨.hbm, 185, rfl⟩
abbrev main_v74 : Ref sig .tc := ⟨.hbm, 186, rfl⟩
abbrev main_cst_15 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_cst_16 : Ref sig .tc := ⟨.hbm, 194, rfl⟩
abbrev main_v81 : Ref sig .tc := ⟨.hbm, 195, rfl⟩
abbrev main_v82 : Ref sig .tc := ⟨.hbm, 196, rfl⟩
abbrev main_cst_17 : Ref sig .tc := ⟨.hbm, 197, rfl⟩
abbrev main_v83 : Ref sig .tc := ⟨.hbm, 198, rfl⟩
abbrev main_v84 : Ref sig .tc := ⟨.hbm, 199, rfl⟩
abbrev main_v85 : Ref sig .tc := ⟨.hbm, 200, rfl⟩
abbrev main_v86 : Ref sig .tc := ⟨.hbm, 201, rfl⟩
abbrev main_v87 : Ref sig .tc := ⟨.hbm, 202, rfl⟩
abbrev main_v88 : Ref sig .tc := ⟨.hbm, 203, rfl⟩
abbrev main_v89 : Ref sig .tc := ⟨.hbm, 204, rfl⟩
abbrev main_cst_18 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_v93 : Ref sig .tc := ⟨.hbm, 209, rfl⟩
abbrev main_call9_v0 : Ref sig .tc := ⟨.hbm, 210, rfl⟩
abbrev main_call9_cst : Ref sig .tc := ⟨.hbm, 211, rfl⟩
abbrev main_call9_c : Ref sig .tc := ⟨.hbm, 212, rfl⟩
abbrev main_call9_v1_0 : Ref sig .tc := ⟨.hbm, 213, rfl⟩
abbrev main_v94 : Ref sig .tc := ⟨.hbm, 214, rfl⟩
abbrev main_call10_c : Ref sig .tc := ⟨.hbm, 215, rfl⟩
abbrev main_call10_v0 : Ref sig .tc := ⟨.hbm, 216, rfl⟩
abbrev main_call10_v1 : Ref sig .tc := ⟨.hbm, 217, rfl⟩
abbrev main_call10_c_0 : Ref sig .tc := ⟨.hbm, 218, rfl⟩
abbrev main_call10_v2 : Ref sig .tc := ⟨.hbm, 219, rfl⟩
abbrev main_call10_v3 : Ref sig .tc := ⟨.hbm, 220, rfl⟩
abbrev main_call10_v4 : Ref sig .tc := ⟨.hbm, 221, rfl⟩
abbrev main_call10_v5 : Ref sig .tc := ⟨.hbm, 222, rfl⟩
abbrev main_call10_c_1 : Ref sig .tc := ⟨.hbm, 223, rfl⟩
abbrev main_call10_c_2 : Ref sig .tc := ⟨.hbm, 224, rfl⟩
abbrev main_call10_v6 : Ref sig .tc := ⟨.hbm, 225, rfl⟩
abbrev main_call10_v7 : Ref sig .tc := ⟨.hbm, 226, rfl⟩
abbrev main_call10_v8 : Ref sig .tc := ⟨.hbm, 227, rfl⟩
abbrev main_call10_v9 : Ref sig .tc := ⟨.hbm, 228, rfl⟩
abbrev main_call10_v10 : Ref sig .tc := ⟨.hbm, 229, rfl⟩
abbrev main_call10_v11 : Ref sig .tc := ⟨.hbm, 230, rfl⟩
abbrev main_call10_c_3 : Ref sig .tc := ⟨.hbm, 231, rfl⟩
abbrev main_call10_v12 : Ref sig .tc := ⟨.hbm, 232, rfl⟩
abbrev main_call10_v13 : Ref sig .tc := ⟨.hbm, 233, rfl⟩
abbrev main_call10_v14 : Ref sig .tc := ⟨.hbm, 234, rfl⟩
abbrev main_call10_cst : Ref sig .tc := ⟨.hbm, 235, rfl⟩
abbrev main_call10_v15 : Ref sig .tc := ⟨.hbm, 236, rfl⟩
abbrev main_v95 : Ref sig .tc := ⟨.hbm, 237, rfl⟩
abbrev main_v96 : Ref sig .tc := ⟨.hbm, 238, rfl⟩
abbrev main_v97 : Ref sig .tc := ⟨.hbm, 239, rfl⟩
abbrev main_call11_v0 : Ref sig .tc := ⟨.hbm, 240, rfl⟩
abbrev main_call11_v1 : Ref sig .tc := ⟨.hbm, 241, rfl⟩
abbrev main_call11_v2 : Ref sig .tc := ⟨.hbm, 242, rfl⟩
abbrev main_call11_v3 : Ref sig .tc := ⟨.hbm, 243, rfl⟩
abbrev main_call11_v4 : Ref sig .tc := ⟨.hbm, 244, rfl⟩
abbrev main_v98 : Ref sig .tc := ⟨.hbm, 245, rfl⟩
abbrev main_cst_19 : Ref sig .tc := ⟨.hbm, 246, rfl⟩
abbrev main_v99 : Ref sig .tc := ⟨.hbm, 247, rfl⟩
abbrev main_cst_20 : Ref sig .tc := ⟨.hbm, 248, rfl⟩
abbrev main_v100 : Ref sig .tc := ⟨.hbm, 249, rfl⟩
abbrev main_v101 : Ref sig .tc := ⟨.hbm, 250, rfl⟩
abbrev main_v102 : Ref sig .tc := ⟨.hbm, 251, rfl⟩
abbrev main_v103 : Ref sig .tc := ⟨.hbm, 252, rfl⟩
abbrev main_v104 : Ref sig .tc := ⟨.hbm, 253, rfl⟩
abbrev main_cst_21 : Ref sig .tc := ⟨.hbm, 254, rfl⟩
abbrev main_v105 : Ref sig .tc := ⟨.hbm, 255, rfl⟩
abbrev main_cst_22 : Ref sig .tc := ⟨.hbm, 256, rfl⟩
abbrev main_v106 : Ref sig .tc := ⟨.hbm, 257, rfl⟩
abbrev main_v107 : Ref sig .tc := ⟨.hbm, 258, rfl⟩
abbrev main_v108 : Ref sig .tc := ⟨.hbm, 259, rfl⟩
abbrev main_cst_23 : Ref sig .tc := ⟨.hbm, 260, rfl⟩
abbrev main_v109 : Ref sig .tc := ⟨.hbm, 261, rfl⟩
abbrev main_cst_24 : Ref sig .tc := ⟨.hbm, 262, rfl⟩
abbrev main_v110 : Ref sig .tc := ⟨.hbm, 263, rfl⟩
abbrev main_cst_25 : Ref sig .tc := ⟨.hbm, 264, rfl⟩
abbrev main_v111 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_v115 : Ref sig .tc := ⟨.hbm, 269, rfl⟩
abbrev main_cst_26 : Ref sig .tc := ⟨.hbm, 270, rfl⟩
abbrev main_v116 : Ref sig .tc := ⟨.hbm, 271, rfl⟩
abbrev main_v117 : Ref sig .tc := ⟨.hbm, 272, rfl⟩
abbrev main_cst_27 : Ref sig .tc := ⟨.hbm, 273, rfl⟩
abbrev main_v118 : Ref sig .tc := ⟨.hbm, 274, rfl⟩
abbrev main_v119 : Ref sig .tc := ⟨.hbm, 275, rfl⟩
abbrev main_v120 : Ref sig .tc := ⟨.hbm, 276, rfl⟩
abbrev main_v121 : Ref sig .tc := ⟨.hbm, 277, rfl⟩
abbrev main_cst_28 : Ref sig .tc := ⟨.hbm, 278, rfl⟩
abbrev main_v122 : Ref sig .tc := ⟨.hbm, 279, rfl⟩
abbrev main_v123 : Ref sig .tc := ⟨.hbm, 280, rfl⟩
abbrev main_v124 : Ref sig .tc := ⟨.hbm, 281, rfl⟩
abbrev main_c : Ref sig .tc := ⟨.hbm, 282, rfl⟩
abbrev main_v125 : Ref sig .tc := ⟨.hbm, 283, rfl⟩
abbrev main_c_29 : Ref sig .tc := ⟨.hbm, 284, rfl⟩
abbrev main_v126 : Ref sig .tc := ⟨.hbm, 285, rfl⟩
abbrev main_v127 : Ref sig .tc := ⟨.hbm, 286, rfl⟩
abbrev main_v128 : Ref sig .tc := ⟨.hbm, 287, rfl⟩
abbrev main_c_30 : Ref sig .tc := ⟨.hbm, 288, rfl⟩
abbrev main_v129 : Ref sig .tc := ⟨.hbm, 289, rfl⟩
abbrev main_v130 : Ref sig .tc := ⟨.hbm, 290, rfl⟩
abbrev main_v131 : Ref sig .tc := ⟨.hbm, 291, rfl⟩
abbrev main_c_31 : Ref sig .tc := ⟨.hbm, 292, rfl⟩
abbrev main_v132 : Ref sig .tc := ⟨.hbm, 293, rfl⟩
abbrev main_v133 : Ref sig .tc := ⟨.hbm, 294, rfl⟩
abbrev main_v134 : Ref sig .tc := ⟨.hbm, 295, rfl⟩
abbrev main_c_32 : Ref sig .tc := ⟨.hbm, 296, rfl⟩
abbrev main_v135 : Ref sig .tc := ⟨.hbm, 297, rfl⟩
abbrev main_v136 : Ref sig .tc := ⟨.hbm, 298, rfl⟩
abbrev main_v137 : Ref sig .tc := ⟨.hbm, 299, rfl⟩
abbrev main_v138 : Ref sig .tc := ⟨.hbm, 300, rfl⟩
abbrev main_v139 : Ref sig .tc := ⟨.hbm, 301, rfl⟩
abbrev main_v140 : Ref sig .tc := ⟨.hbm, 302, rfl⟩
abbrev main_v141 : Ref sig .tc := ⟨.hbm, 303, rfl⟩
abbrev main_v142 : Ref sig .tc := ⟨.hbm, 304, rfl⟩
abbrev main_v143 : Ref sig .tc := ⟨.hbm, 305, rfl⟩
abbrev main_v144 : Ref sig .tc := ⟨.hbm, 306, rfl⟩
abbrev main_v145 : Ref sig .tc := ⟨.hbm, 307, rfl⟩
abbrev main_v146 : Ref sig .tc := ⟨.hbm, 308, rfl⟩
abbrev main_v147 : Ref sig .tc := ⟨.hbm, 309, rfl⟩
abbrev main_c_33 : Ref sig .tc := ⟨.hbm, 310, rfl⟩
abbrev main_v148 : Ref sig .tc := ⟨.hbm, 311, rfl⟩

abbrev nD : Nat := 1
abbrev τ : Topo := Topo.v7x

variable {F : FTy → Type} [FloatOps F]
-- ==== Proof.KernelStage.lean ====
/-
  What one quantiser of the kernel does to a block of 768 rows, as functions of what it loads, and the four of them one
  after the other. Both halves of every block, at every grid point, are these functions of their own loads.
-/
module

public import proofs.«01_k».proof.Proof.Gen.KernelIdeal

@[expose] public section

noncomputable section

namespace Cert.Proof.KernelStage

open Cert.KernelIdeal Cert.KernelIdeal.Gen
open Idealize.ShloMosaic

variable {F : FTy → Type} [FloatOps F]

/-- The column numbers, as floats. -/
def lane : FVec F S768x512 .f32 := sitofp .f32 (iota .tc S768x512 32 [1] iota_S768x512_d1_w32)

/-- The distances of the rows `r` to the codes, from the doubled codes `b` and the codes' squared lengths `n`. -/
def dists (r : FVec F S768x256 .f32) (b : Vec F S1x512x256 .f32) (n : Vec F S1x512 .f32) : FVec F S768x512 .f32 :=
  addf
    (subf
      (broadcastTo S768x512
        (shapeCast S768x1 (multiReduction .add [1] S768 (mulf r r) 0x00000000#32 reduces_S768x256_S768 (.inl rfl) rfl)
          shapeCasts_S768_S768x1) broadcasts_S768x1_S768x512)
      (matmul dot_S768x256_S512x256_S768x512_1_1_0_0_n_n none r (shapeCast S512x256 b shapeCasts_S1x512x256_S512x256)
        (constant S768x512 .f32 0x00000000#32)))
    (broadcastTo S768x512 (shapeCast S1x512 (shapeCast S512 n shapeCasts_S1x512_S512) shapeCasts_S512_S1x512)
      broadcasts_S1x512_S768x512)

/-- The least entry of each row. -/
def least (d : FVec F S768x512 .f32) : FVec F S768 .f32 :=
  multiReduction .minimumf [1] S768 d 0x7F800000#32 reduces_S768x512_S768 (.inl rfl) rfl

/-- A value per row, all along the row. -/
def along (v : FVec F S768 .f32) : FVec F S768x512 .f32 :=
  broadcastTo S768x512 (shapeCast S768x1 v shapeCasts_S768_S768x1) broadcasts_S768x1_S768x512

/-- The first position of each row's least entry, as a float. -/
def first (d : FVec F S768x512 .f32) : FVec F S768 .f32 :=
  least (select (cmpf .oeq d (along (least d))) lane (broadcast S768x512 (Scalar.ofBits .f32 0x44000000#32)))

/-- That position as an integer, and as a one-hot row. -/
def index (v : FVec F S768 .f32) : IVec S768x1 32 := fptosi 32 (shapeCast S768x1 v shapeCasts_S768_S768x1)

/-- The one-hot row of a chosen position. -/
def hot (v : FVec F S768 .f32) : FVec F S768x512 .f32 := sitofp .f32 (extui 32 (cmpf .oeq lane (along v)) natLt_1_32)

/-- A one-hot row times a part of the codebook. -/
def times (h : FVec F S768x512 .f32) (x : Vec F S1x512x256 .f32) : FVec F S768x256 .f32 :=
  matmul dot_S768x512_S512x256_S768x256_1_0_0_1_n_n none h (shapeCast S512x256 x shapeCasts_S1x512x256_S512x256)
    (constant S768x256 .f32 0x00000000#32)

/-- What the quantisers load: quantiser `s`'s codebook in three parts, doubled, and its codes' squared lengths. -/
structure Loads (F : FTy → Type) where
  hi : ℕ → Vec F S1x512x256 .f32
  mid : ℕ → Vec F S1x512x256 .f32
  lo : ℕ → Vec F S1x512x256 .f32
  twice : ℕ → Vec F S1x512x256 .f32
  sq : ℕ → Vec F S1x512 .f32

/-- The rows less their nearest codes. -/
def step (L : Loads F) (s : ℕ) (r : FVec F S768x256 .f32) (v : FVec F S768 .f32) : FVec F S768x256 .f32 :=
  subf r (addf (addf (times (hot v) (L.hi s)) (times (hot v) (L.mid s))) (times (hot v) (L.lo s)))

/-- What is left of the rows `z` before quantiser `s`, and the codes it chooses. -/
def res (L : Loads F) (z : FVec F S768x256 .f32) : ℕ → FVec F S768x256 .f32
  | 0 => z
  | s + 1 => step L s (res L z s) (first (dists (res L z s) (L.twice s) (L.sq s)))

/-- The position that quantiser `s` chooses for each row. -/
def chosen (L : Loads F) (z : FVec F S768x256 .f32) (s : ℕ) : FVec F S768 .f32 :=
  first (dists (res L z s) (L.twice s) (L.sq s))

/-- The composed index, and how often each row chose each code. -/
def composed (L : Loads F) (z : FVec F S768x256 .f32) : IVec S768x1 32 :=
  addi (addi (addi (addi (broadcast S768x1 0#32)
    (muli (index (chosen L z 0)) (broadcast S768x1 1#32))) (muli (index (chosen L z 1)) (broadcast S768x1 512#32)))
    (muli (index (chosen L z 2)) (broadcast S768x1 262144#32))) (muli (index (chosen L z 3)) (broadcast S768x1 134217728#32))

/-- How often each row chose each code. -/
def tally (L : Loads F) (z : FVec F S768x256 .f32) : FVec F S768x512 .f32 :=
  addf (addf (addf (addf (broadcast S768x512 (Scalar.ofBits .f32 0x00000000#32))
    (hot (chosen L z 0))) (hot (chosen L z 1))) (hot (chosen L z 2))) (hot (chosen L z 3))

end Cert.Proof.KernelStage

end
-- ==== Proof.Nearest.lean ====
/-
  Residual quantisation as mathematics over the extended reals: the distance of a row to a code, the first nearest code,
  and what four quantisers one after the other leave of a row. Both programs are shown to compute these.
-/
module

public import Idealize.ShloMosaic.Lib.Pointwise

@[expose] public section

noncomputable section

namespace Cert.Proof.Nearest

open Idealize.ShloMosaic

/-- A row of latents, and a codebook. -/
abbrev Row := Fin 256 → EReal

/-- A codebook. -/
abbrev Book := Fin 512 → Fin 256 → EReal

/-- The distance of the row `r` to code `k`, as both programs spell it: `Σ r² - Σ r (c + c) + Σ c²`. -/
def gap (B : Book) (r : Row) (k : Fin 512) : EReal :=
  ((∑ d, r d * r d) - ∑ d, r d * (B k d + B k d)) + ∑ d, B k d * B k d

/-- Some position has the least value, and is the first to have it. -/
theorem exists_first (f : Fin 512 → EReal) : ∃ k, (∀ j, f k ≤ f j) ∧ ∀ j, j < k → f k < f j := by
  obtain ⟨m, hm⟩ := Finite.exists_min f
  classical
  have hne : (Finset.univ.filter fun k => f k = f m).Nonempty := ⟨m, by simp⟩
  obtain ⟨k, hk⟩ : ∃ k, k = (Finset.univ.filter fun k => f k = f m).min' hne := ⟨_, rfl⟩
  have hkm : f k = f m := by
    have := Finset.min'_mem _ hne
    rw [← hk] at this
    simpa using this
  refine ⟨k, fun j => hkm ▸ hm j, fun j hj => lt_of_le_of_ne (hkm ▸ hm j) fun he => ?_⟩
  have : k ≤ j := hk ▸ Finset.min'_le _ j (by simp [← he, hkm])
  exact absurd hj (not_lt.mpr this)

/-- The first position of the least value. -/
def pick (f : Fin 512 → EReal) : Fin 512 := (exists_first f).choose

/-- Its value is the least. -/
theorem pick_le (f : Fin 512 → EReal) (j : Fin 512) : f (pick f) ≤ f j := (exists_first f).choose_spec.1 j

/-- Any position before it has a greater value. -/
theorem pick_lt (f : Fin 512 → EReal) (j : Fin 512) (h : j < pick f) : f (pick f) < f j := (exists_first f).choose_spec.2 j h

/-- It is the only position with both properties. -/
theorem pick_unique (f : Fin 512 → EReal) (k : Fin 512) (h : ∀ j, f k ≤ f j) (h' : ∀ j, j < k → f k < f j) : k = pick f := by
  rcases lt_trichotomy k (pick f) with hl | he | hl
  · exact absurd (pick_lt f k hl) (not_lt.mpr (h _))
  · exact he
  · exact absurd (h' _ hl) (not_lt.mpr (pick_le f _))

/-- The nearest code to the row `r`, and the row with it taken off. -/
def code (B : Book) (r : Row) : Fin 512 := pick (gap B r)

/-- The row with its nearest code taken off. -/
def next (B : Book) (r : Row) : Row := fun d => r d - B (code B r) d

/-- What is left of the row `z` before quantiser `s`, and the code that quantiser chooses. -/
def left (C : ℕ → Book) (z : Row) : ℕ → Row
  | 0 => z
  | s + 1 => next (C s) (left C z s)

/-- The code that quantiser `s` chooses. -/
def digit (C : ℕ → Book) (z : Row) (s : ℕ) : Fin 512 := code (C s) (left C z s)

/-- One quantiser more takes one code more off. -/
theorem left_succ (C : ℕ → Book) (z : Row) (s : ℕ) : left C z (s + 1) = next (C s) (left C z s) := rfl

/-- The index composed of the four codes, in 32-bit words, and how many of the four codes are `k`. -/
def compose (C : ℕ → Book) (z : Row) : BitVec 32 :=
  (((0#32 + BitVec.ofNat 32 (digit C z 0).val * 1#32) + BitVec.ofNat 32 (digit C z 1).val * 512#32)
    + BitVec.ofNat 32 (digit C z 2).val * 262144#32) + BitVec.ofNat 32 (digit C z 3).val * 134217728#32

/-- How many of the four codes are `k`. -/
def votes (C : ℕ → Book) (z : Row) (k : Fin 512) : EReal :=
  (((if k = digit C z 0 then (1 : EReal) else 0) + (if k = digit C z 1 then (1 : EReal) else 0))
    + (if k = digit C z 2 then (1 : EReal) else 0)) + (if k = digit C z 3 then (1 : EReal) else 0)

/-! ### The first nearest code by two minima -/

/-- The least value, as a minimum taken from `⊤`. -/
theorem fold_min (f : Fin 512 → EReal) : Finset.univ.fold min ⊤ f = f (pick f) := by
  refine le_antisymm ?_ ?_
  · exact (Finset.fold_min_le _).mpr (.inr ⟨pick f, Finset.mem_univ _, le_rfl⟩)
  · exact (Finset.le_fold_min _).mpr ⟨le_top, fun j _ => pick_le f j⟩

/-- The least position among those of the least value, the others counted as `512`. -/
theorem fold_min_position (f : Fin 512 → EReal) (g : Fin 512 → EReal)
    (hg : ∀ k, g k = if f k = f (pick f) then (((k.val : ℕ) : ℝ) : EReal) else ((512 : ℝ) : EReal)) :
    Finset.univ.fold min ⊤ g = (((pick f).val : ℝ) : EReal) := by
  refine le_antisymm ?_ ?_
  · refine (Finset.fold_min_le _).mpr (.inr ⟨pick f, Finset.mem_univ _, ?_⟩)
    rw [hg, if_pos rfl]
  · refine (Finset.le_fold_min _).mpr ⟨le_top, fun j _ => ?_⟩
    rw [hg]
    split
    · next he =>
      have : pick f ≤ j := not_lt.mp fun hl => absurd (he ▸ pick_lt f j hl) (lt_irrefl _)
      exact EReal.coe_le_coe_iff.mpr (by exact_mod_cast this)
    · exact EReal.coe_le_coe_iff.mpr (by exact_mod_cast (pick f).isLt.le)

/-- A sum against a one-hot row picks its entry. -/
theorem sum_hot (p : Fin 512) (x : Fin 512 → EReal) : (∑ k, (if k = p then (1 : EReal) else 0) * x k) = x p := by
  simp [ite_mul, Finset.sum_ite_eq']

/-! ### Finite codes -/

/-- Every entry of the book is a real number. -/
def Finite (B : Book) : Prop := ∀ k d, ∃ c : ℝ, B k d = (c : EReal)

/-- A real less itself is zero. -/
theorem sub_self_of_real {x : EReal} (h : ∃ c : ℝ, x = (c : EReal)) : x - x = 0 := by
  obtain ⟨c, rfl⟩ := h
  norm_cast
  simp

/-- Doubling the row or doubling the code is the same. -/
theorem double {c : EReal} (h : ∃ a : ℝ, c = (a : EReal)) (r : EReal) : ((2 : ℝ) : EReal) * r * c = r * (c + c) := by
  obtain ⟨a, rfl⟩ := h
  have : ((a : EReal) + (a : EReal)) = ((2 : ℝ) : EReal) * (a : EReal) := by norm_cast; ring
  rw [this, mul_comm _ r, mul_assoc]

/-! ### The row against the sum of its codes -/

/-- The sum of the four codes chosen for the row. -/
def total (C : ℕ → Book) (z : Row) (d : Fin 256) : EReal :=
  (((0 + C 0 (digit C z 0) d) + C 1 (digit C z 1) d) + C 2 (digit C z 2) d) + C 3 (digit C z 3) d

/-- The sum is a real number, and what four quantisers leave is the row less it. -/
theorem total_left (C : ℕ → Book) (hC : ∀ s, Finite (C s)) (z : Row) (d : Fin 256) :
    ∃ q : ℝ, total C z d = (q : EReal) ∧ left C z 4 d = z d - (q : EReal) := by
  obtain ⟨a, ha⟩ := hC 0 (digit C z 0) d
  obtain ⟨b, hb⟩ := hC 1 (digit C z 1) d
  obtain ⟨c, hc⟩ := hC 2 (digit C z 2) d
  obtain ⟨e, he⟩ := hC 3 (digit C z 3) d
  refine ⟨a + b + c + e, ?_, ?_⟩
  · rw [total, ha, hb, hc, he, zero_add]
    push_cast
    rfl
  · have hl : left C z 4 d
        = (((z d - C 0 (digit C z 0) d) - C 1 (digit C z 1) d) - C 2 (digit C z 2) d) - C 3 (digit C z 3) d := rfl
    rw [hl, ha, hb, hc, he]
    induction hz : z d with
    | bot => simp
    | top =>
      simp only [EReal.top_sub_coe]
    | coe x => norm_cast; ring

/-- The straight-through value: the row and what is missing to its codes, or the row less what is left. -/
theorem straight (C : ℕ → Book) (hC : ∀ s, Finite (C s)) (z : Row) (d : Fin 256) :
    z d - left C z 4 d = z d + (total C z d - z d) := by
  obtain ⟨q, hq, hl⟩ := total_left C hC z d
  rw [hq, hl]
  induction hz : z d with
  | bot => simp
  | top => simp [EReal.top_sub_coe]
  | coe x => norm_cast; ring

/-- The squared error, whichever of the two is taken off the other. -/
theorem square (C : ℕ → Book) (hC : ∀ s, Finite (C s)) (z : Row) (d : Fin 256) :
    (z d - total C z d) * (z d - total C z d) = left C z 4 d * left C z 4 d := by
  obtain ⟨q, hq, hl⟩ := total_left C hC z d
  rw [hq, hl]

/-- The same with the two exchanged. -/
theorem square' (C : ℕ → Book) (hC : ∀ s, Finite (C s)) (z : Row) (d : Fin 256) :
    (total C z d - z d) * (total C z d - z d) = left C z 4 d * left C z 4 d := by
  obtain ⟨q, hq, hl⟩ := total_left C hC z d
  rw [hq, hl]
  induction hz : z d with
  | bot => simp
  | top => simp [EReal.top_sub_coe]
  | coe x => norm_cast; ring

/-- A quarter of a value and the value. -/
theorem quarter (y : EReal) : ((1/4 : ℝ) : EReal) * y + y = ((5/4 : ℝ) : EReal) * y := by
  induction y with
  | bot => rw [EReal.coe_mul_bot_of_pos (by norm_num), EReal.coe_mul_bot_of_pos (by norm_num)]; rfl
  | top => rw [EReal.coe_mul_top_of_pos (by norm_num), EReal.coe_mul_top_of_pos (by norm_num)]; rfl
  | coe x => norm_cast; ring

/-! ### How often each code is chosen -/

/-- A one-hot entry is a real number. -/
theorem hot_real (p : Prop) [Decidable p] : (if p then (1 : EReal) else 0) = (((if p then 1 else 0 : ℝ)) : EReal) := by
  split <;> simp

/-- A sum of real numbers is one. -/
theorem real_sum {n : ℕ} (f : Fin n → EReal) (h : ∀ x, ∃ a : ℝ, f x = (a : EReal)) : ∃ a : ℝ, ∑ x, f x = (a : EReal) := by
  choose g hg using h
  refine ⟨∑ x, g x, ?_⟩
  rw [Finset.sum_congr rfl fun x _ => hg x]
  exact (map_sum (⟨⟨Real.toEReal, EReal.coe_zero⟩, EReal.coe_add⟩ : ℝ →+ EReal) g Finset.univ).symm

/-- A sum over `m` blocks of `n` entries, and one over two halves. -/
theorem sum_blocks {M : Type} [AddCommMonoid M] (m n p : ℕ) (h : p = m * n) (f : Fin p → M) :
    ∑ x, f x = ∑ i : Fin m, ∑ r : Fin n, f ⟨r.val + n * i.val, by
      subst h; have := (finProdFinEquiv (i, r)).isLt; simpa [finProdFinEquiv] using this⟩ := by
  subst h
  exact ((Equiv.sum_comp (finProdFinEquiv (m := m) (n := n)) f).symm).trans (Fintype.sum_prod_type _)

/-- A sum over two halves. -/
theorem sum_halves {M : Type} [AddCommMonoid M] (n p : ℕ) (h : p = n + n) (f : Fin p → M) :
    ∑ x, f x = ∑ r : Fin n, (f ⟨r.val, by omega⟩ + f ⟨n + r.val, by omega⟩) := by
  subst h
  rw [Fin.sum_univ_add, Finset.sum_add_distrib]
  rfl

/-- A sum over the rows, block by block and half by half. -/
theorem sum_rows {M : Type} [AddCommMonoid M] (f : Fin 9216 → M) :
    ∑ n, f n = ∑ i : Fin 6, ∑ r : Fin 768,
      (f ⟨r.val + 1536 * i.val, by omega⟩ + f ⟨768 + r.val + 1536 * i.val, by omega⟩) := by
  rw [sum_blocks 6 1536 9216 (by norm_num) f]
  exact Finset.sum_congr rfl fun i _ => sum_halves 768 1536 (by norm_num) _

/-- How many rows quantiser `s` sends to code `k`, and how often `k` is chosen by any. -/
def times (C : ℕ → Book) (Z : Fin 9216 → Row) (s : ℕ) (k : Fin 512) : EReal :=
  ∑ n, if k = digit C (Z n) s then (1 : EReal) else 0

/-- It is a real number. -/
theorem times_real (C : ℕ → Book) (Z : Fin 9216 → Row) (s : ℕ) (k : Fin 512) : ∃ x : ℝ, times C Z s k = (x : EReal) :=
  real_sum _ fun _ => ⟨_, hot_real _⟩

/-- The mean usage, quantiser by quantiser or all at once. -/
theorem usage_eq (C : ℕ → Book) (Z : Fin 9216 → Row) (k : Fin 512) :
    Ideal.div ((((0 + Ideal.div (times C Z 0 k) ((9216 : ℝ) : EReal)) + Ideal.div (times C Z 1 k) ((9216 : ℝ) : EReal))
        + Ideal.div (times C Z 2 k) ((9216 : ℝ) : EReal)) + Ideal.div (times C Z 3 k) ((9216 : ℝ) : EReal)) ((4 : ℝ) : EReal)
      = (((times C Z 0 k + times C Z 1 k) + times C Z 2 k) + times C Z 3 k) * ((1/36864 : ℝ) : EReal) := by
  obtain ⟨a, ha⟩ := times_real C Z 0 k
  obtain ⟨b, hb⟩ := times_real C Z 1 k
  obtain ⟨c, hc⟩ := times_real C Z 2 k
  obtain ⟨e, he⟩ := times_real C Z 3 k
  rw [ha, hb, hc, he, zero_add]
  simp only [Ideal.div_coe (show (9216 : ℝ) ≠ 0 by norm_num), Ideal.div_coe (show (4 : ℝ) ≠ 0 by norm_num)]
  have h : ∀ x y : ℝ, ((x : EReal) + (y : EReal)) = ((x + y : ℝ) : EReal) := fun x y => rfl
  have h' : ∀ x y : ℝ, ((x : EReal) * (y : EReal)) = ((x * y : ℝ) : EReal) := fun x y => (EReal.coe_mul x y).symm
  simp only [h, h']
  refine congrArg _ ?_
  ring

end Cert.Proof.Nearest

end
-- ==== Proof.Consts.lean ====
/-
  What the float words printed in the two programs are worth as extended reals.
-/
module

public import Idealize.ShloMosaic.Lib.Pointwise

@[expose] public section

noncomputable section

namespace Cert.Proof.Consts

open Idealize.ShloMosaic

/-- The word of +∞. -/
theorem word_top : Ideal.ofBits .f32 0x7F800000#32 = ⊤ := by
  simp [Ideal.ofBits, Ideal.ieee, -EReal.coe_mul]

/-- The word of 512. -/
theorem word_512 : Ideal.ofBits .f32 0x44000000#32 = ((512 : ℝ) : EReal) := by
  simp [Ideal.ofBits, Ideal.ieee, -EReal.coe_mul]; norm_num

/-- The word of 2. -/
theorem word_2 : Ideal.ofBits .f32 0x40000000#32 = ((2 : ℝ) : EReal) := by
  simp [Ideal.ofBits, Ideal.ieee, -EReal.coe_mul]; try norm_num

/-- The word of 9216. -/
theorem word_9216 : Ideal.ofBits .f32 0x46100000#32 = ((9216 : ℝ) : EReal) := by
  simp [Ideal.ofBits, Ideal.ieee, -EReal.coe_mul]; norm_num

/-- The word of 2359296, the number of entries of the rows. -/
theorem word_entries : Ideal.ofBits .f32 0x4A100000#32 = ((2359296 : ℝ) : EReal) := by
  simp [Ideal.ofBits, Ideal.ieee, -EReal.coe_mul]; norm_num

/-- The word of 1/4. -/
theorem word_quarter : Ideal.ofBits .f32 0x3E800000#32 = ((1/4 : ℝ) : EReal) := by
  simp [Ideal.ofBits, Ideal.ieee, -EReal.coe_mul]; try norm_num

/-- The word of 4. -/
theorem word_4 : Ideal.ofBits .f32 0x40800000#32 = ((4 : ℝ) : EReal) := by
  simp [Ideal.ofBits, Ideal.ieee, -EReal.coe_mul]; try norm_num

/-- The word of 5/4. -/
theorem word_five_quarters : Ideal.ofBits .f32 0x3FA00000#32 = ((5/4 : ℝ) : EReal) := by
  simp [Ideal.ofBits, Ideal.ieee, -EReal.coe_mul]; norm_num

/-- A small natural number is itself as a signed word. -/
theorem toInt_small (n : ℕ) (h : n < 512) : (BitVec.ofNat 32 n).toInt = (n : ℤ) := by
  rw [BitVec.toInt_ofNat', Int.bmod_def]
  omega

/-- A small column number as a float. -/
theorem sitofp_small (n : ℕ) (h : n < 512) :
    FloatOps.sitofp (F := Ideal) .f32 (BitVec.ofNat 32 n) = ((n : ℝ) : EReal) := by
  show (((BitVec.ofNat 32 n).toInt : ℝ) : EReal) = _
  rw [toInt_small n h]
  rfl

/-- A small natural number back from a float. -/
theorem fptosi_small (n : ℕ) (h : n < 512) : FloatOps.fptosi (F := Ideal) (φ := .f32) 32 ((n : ℝ) : EReal) = BitVec.ofNat 32 n := by
  show BitVec.ofInt 32 (max _ (min _ (if 0 ≤ (n : ℝ) then ⌊(n : ℝ)⌋ else ⌈(n : ℝ)⌉))) = _
  rw [if_pos (by positivity), Int.floor_natCast, min_eq_right (by norm_num; omega), max_eq_right (by norm_num)]
  exact BitVec.ofInt_natCast 32 n

/-- A condition as a float: through a signed word, or as an unsigned bit. -/
theorem sitofp_cond (b : Bool) :
    FloatOps.sitofp (F := Ideal) .f32 (BitVec.setWidth 32 (BitVec.ofBool b)) = if b = true then (1 : EReal) else 0 := by
  show (((BitVec.setWidth 32 (BitVec.ofBool b)).toInt : ℝ) : EReal) = _
  cases b <;> simp

/-- A condition turned into a float is one or zero. -/
theorem uitofp_cond (b : Bool) :
    FloatOps.uitofp (F := Ideal) .f32 (BitVec.ofBool b) = if b = true then (1 : EReal) else 0 := by
  show (((BitVec.ofBool b).toNat : ℝ) : EReal) = _
  cases b <;> simp

end Cert.Proof.Consts

end
-- ==== Proof.KernelRow.lean ====
/-
  The kernel's quantisers over the extended reals, row by row: each chooses the first nearest code and takes it off.
-/
module

public import proofs.«01_k».proof.Proof.KernelStage
public import proofs.«01_k».proof.Proof.Nearest
public import proofs.«01_k».proof.Proof.Consts

@[expose] public section

noncomputable section

namespace Cert.Proof.KernelStage

open Cert.KernelIdeal Cert.KernelIdeal.Gen Cert.Proof.Nearest
open Idealize.ShloMosaic

/-- The lane number as a float. -/
theorem lane_apply (r : Fin 768) (k : Fin 512) : lane (F := Ideal) (ix2 r k) = ((k.val : ℝ) : EReal) := by
  pointwise [lane]
  exact Consts.sitofp_small _ k.isLt

/-- The distance of a row to a code, as the kernel computes it. -/
theorem dists_apply (r : FVec Ideal S768x256 .f32) (b : Vec Ideal S1x512x256 .f32) (n : Vec Ideal S1x512 .f32) (x : Fin 768) (k : Fin 512) :
    dists r b n (ix2 x k)
      = ((∑ d : Fin 256, r (ix2 x d) * r (ix2 x d)) - ∑ d : Fin 256, r (ix2 x d) * b (ix3 0 k d)) + n (ix2 0 k) := by
  pointwise [dists, dot_S768x256_S512x256_S768x512_1_1_0_0_n_n]
  done

/-- The least distance of a row. -/
theorem least_apply (d : FVec Ideal S768x512 .f32) (x : Fin 768) :
    least d (ix1 x) = Finset.univ.fold min ⊤ fun k : Fin 512 => d (ix2 x k) := by
  pointwise [least]
  rw [Consts.word_top]

/-- A column of values spread along the codes. -/
theorem along_apply (v : FVec Ideal S768 .f32) (x : Fin 768) (k : Fin 512) : along v (ix2 x k) = v (ix1 x) := by
  pointwise [along]
  done

/-- A product with a part of the codebook. -/
theorem times_apply (h : FVec Ideal S768x512 .f32) (b : Vec Ideal S1x512x256 .f32) (x : Fin 768) (d : Fin 256) :
    times h b (ix2 x d) = ∑ k : Fin 512, h (ix2 x k) * b (ix3 0 k d) := by
  pointwise [times, dot_S768x512_S512x256_S768x256_1_0_0_1_n_n]
  done

/-- A one-hot entry is one where the lane is the chosen one. -/
theorem hot_apply (v : FVec Ideal S768 .f32) (x : Fin 768) (k : Fin 512) :
    hot v (ix2 x k) = if lane (F := Ideal) (ix2 x k) = v (ix1 x) then (1 : EReal) else 0 := by
  pointwise [hot, along]
  rw [Consts.sitofp_cond]
  simp only [decide_eq_true_eq]

/-- The chosen position as a 32-bit word. -/
theorem index_apply (v : FVec Ideal S768 .f32) (x : Fin 768) (p : Fin 512) (h : v (ix1 x) = ((p.val : ℝ) : EReal)) :
    index v (ix2 x 0) = BitVec.ofNat 32 p.val := by
  pointwise [index, h]
  exact Consts.fptosi_small _ p.isLt

/-- The position the two minima find is that of the first least entry. -/
theorem first_apply (d : FVec Ideal S768x512 .f32) (x : Fin 768) :
    first d (ix1 x) = (((pick fun k => d (ix2 x k)).val : ℝ) : EReal) := by
  rw [first, least_apply]
  refine fold_min_position (fun k => d (ix2 x k)) _ fun k => ?_
  pointwise
  rw [along_apply, least_apply, fold_min, lane_apply, Consts.word_512]

/-- The loads of the quantisers hold the codebooks `C`. -/
structure Holds (L : Loads Ideal) (C : ℕ → Book) : Prop where
  finite : ∀ s, s < 4 → Finite (C s)
  hi : ∀ s, s < 4 → ∀ k d, L.hi s (ix3 0 k d) = C s k d
  mid : ∀ s, s < 4 → ∀ k d, L.mid s (ix3 0 k d) = 0
  lo : ∀ s, s < 4 → ∀ k d, L.lo s (ix3 0 k d) = 0
  twice : ∀ s, s < 4 → ∀ k d, L.twice s (ix3 0 k d) = C s k d + C s k d
  sq : ∀ s, s < 4 → ∀ k, L.sq s (ix2 0 k) = ∑ d, C s k d * C s k d

section
variable {L : Loads Ideal} {C : ℕ → Book} (hL : Holds L C)
include hL

/-- On rows that are `ρ`, quantiser `s` chooses the nearest codes to `ρ`. -/
theorem first_row (s : ℕ) (hs : s < 4) (r : FVec Ideal S768x256 .f32) (x : Fin 768) (ρ : Row) (h : ∀ d, r (ix2 x d) = ρ d) :
    first (dists r (L.twice s) (L.sq s)) (ix1 x) = (((code (C s) ρ).val : ℝ) : EReal) := by
  rw [first_apply]
  have : (fun k => dists r (L.twice s) (L.sq s) (ix2 x k)) = gap (C s) ρ := by
    funext k
    rw [dists_apply, hL.sq s hs, gap]
    simp only [h, hL.twice s hs]
  rw [this, code]

/-- And takes them off. -/
theorem step_row (s : ℕ) (hs : s < 4) (r : FVec Ideal S768x256 .f32) (v : FVec Ideal S768 .f32) (x : Fin 768) (ρ : Row)
    (h : ∀ d, r (ix2 x d) = ρ d) (hv : v (ix1 x) = (((code (C s) ρ).val : ℝ) : EReal)) (d : Fin 256) :
    step L s r v (ix2 x d) = next (C s) ρ d := by
  have hh : ∀ k : Fin 512, hot v (ix2 x k) = if k = code (C s) ρ then (1 : EReal) else 0 := fun k => by
    rw [hot_apply, lane_apply, hv]
    simp only [EReal.coe_eq_coe_iff, Nat.cast_inj, Fin.val_inj]
  pointwise [step]
  rw [times_apply, times_apply, times_apply]
  simp only [hh, hL.hi s hs, hL.mid s hs, hL.lo s hs, sum_hot, h, add_zero, next]

/-- What is left before each quantiser, row by row. -/
theorem res_row (z : FVec Ideal S768x256 .f32) (x : Fin 768) : ∀ s, s ≤ 4 → ∀ d,
    res L z s (ix2 x d) = left C (fun d => z (ix2 x d)) s d
  | 0, _, d => rfl
  | s + 1, hs, d =>
    step_row hL s (by omega) _ _ x _ (res_row z x s (by omega))
      (first_row hL s (by omega) _ x _ (res_row z x s (by omega))) d

/-- The code each quantiser chooses, row by row. -/
theorem chosen_row (z : FVec Ideal S768x256 .f32) (x : Fin 768) (s : ℕ) (hs : s < 4) :
    chosen L z s (ix1 x) = (((digit C (fun d => z (ix2 x d)) s).val : ℝ) : EReal) :=
  first_row hL s hs _ x _ (res_row hL z x s hs.le)

/-- The codes as integers. -/
theorem index_row (z : FVec Ideal S768x256 .f32) (x : Fin 768) (s : ℕ) (hs : s < 4) :
    index (chosen L z s) (ix2 x 0) = BitVec.ofNat 32 (digit C (fun d => z (ix2 x d)) s).val :=
  index_apply _ x _ (chosen_row hL z x s hs)

/-- The codes as one-hot rows. -/
theorem hot_row (z : FVec Ideal S768x256 .f32) (x : Fin 768) (s : ℕ) (hs : s < 4) (k : Fin 512) :
    hot (chosen L z s) (ix2 x k) = if k = digit C (fun d => z (ix2 x d)) s then (1 : EReal) else 0 := by
  rw [hot_apply, lane_apply, chosen_row hL z x s hs]
  simp only [EReal.coe_eq_coe_iff, Nat.cast_inj, Fin.val_inj]

/-- The composed index of a row, and its four one-hot rows added. -/
theorem composed_row (z : FVec Ideal S768x256 .f32) (x : Fin 768) :
    composed L z (ix2 x 0) = compose C (fun d => z (ix2 x d)) := by
  pointwise [composed]
  rw [index_row hL z x 0 (by omega), index_row hL z x 1 (by omega), index_row hL z x 2 (by omega), index_row hL z x 3 (by omega)]
  rfl

/-- The four one-hot rows added count how often a row chose each code. -/
theorem tally_row (z : FVec Ideal S768x256 .f32) (x : Fin 768) (k : Fin 512) :
    tally L z (ix2 x k) = votes C (fun d => z (ix2 x d)) k := by
  pointwise [tally]
  rw [hot_row hL z x 0 (by omega), hot_row hL z x 1 (by omega), hot_row hL z x 2 (by omega), hot_row hL z x 3 (by omega)]
  rfl

end

end Cert.Proof.KernelStage

end
-- ==== Proof.KernelPieces.lean ====
/-
  The pieces the kernel's body stores, at a point of each kind, in the words of `KernelStage`.
-/
module

public import proofs.«01_k».proof.Proof.KernelStage
public import proofs.«01_k».proof.Proof.Gen.KernelIdeal.Frame

@[expose] public section

set_option maxRecDepth 16384

noncomputable section

namespace Cert.Proof.KernelStage

open Cert.KernelIdeal Cert.KernelIdeal.Gen
open Idealize.ShloMosaic Idealize.ShloMosaic.TcCoe Idealize.SL.Sem

variable {F : FTy → Type} [FloatOps F] [Named F]

/-- The loads of the quantisers out of the five scratch buffers at the contents `f·`. -/
def loads (v10 v11 v12 : View sig .tc .vmem S4x512x256 .f32) (v13 : View sig .tc .vmem S4x512 .f32) (v14 : View sig .tc .vmem S4x512x256 .f32)
    (f10 : v10.ty.Contents (Elt F)) (f11 : v11.ty.Contents (Elt F)) (f12 : v12.ty.Contents (Elt F)) (f13 : v13.ty.Contents (Elt F))
    (f14 : v14.ty.Contents (Elt F)) : Loads F where
  hi := fun
    | 0 => View.readAt (Elt F) v10 (Rect.unit (s := S4x512x256) ![0, 0, 0] S1x512x256.size inb_S4x512x256_S1x512x256_0_0_0).toLoadRect f10
    | 1 => View.readAt (Elt F) v10 (Rect.unit (s := S4x512x256) ![1, 0, 0] S1x512x256.size inb_S4x512x256_S1x512x256_1_0_0).toLoadRect f10
    | 2 => View.readAt (Elt F) v10 (Rect.unit (s := S4x512x256) ![2, 0, 0] S1x512x256.size inb_S4x512x256_S1x512x256_2_0_0).toLoadRect f10
    | _ => View.readAt (Elt F) v10 (Rect.unit (s := S4x512x256) ![3, 0, 0] S1x512x256.size inb_S4x512x256_S1x512x256_3_0_0).toLoadRect f10
  mid := fun
    | 0 => View.readAt (Elt F) v11 (Rect.unit (s := S4x512x256) ![0, 0, 0] S1x512x256.size inb_S4x512x256_S1x512x256_0_0_0).toLoadRect f11
    | 1 => View.readAt (Elt F) v11 (Rect.unit (s := S4x512x256) ![1, 0, 0] S1x512x256.size inb_S4x512x256_S1x512x256_1_0_0).toLoadRect f11
    | 2 => View.readAt (Elt F) v11 (Rect.unit (s := S4x512x256) ![2, 0, 0] S1x512x256.size inb_S4x512x256_S1x512x256_2_0_0).toLoadRect f11
    | _ => View.readAt (Elt F) v11 (Rect.unit (s := S4x512x256) ![3, 0, 0] S1x512x256.size inb_S4x512x256_S1x512x256_3_0_0).toLoadRect f11
  lo := fun
    | 0 => View.readAt (Elt F) v12 (Rect.unit (s := S4x512x256) ![0, 0, 0] S1x512x256.size inb_S4x512x256_S1x512x256_0_0_0).toLoadRect f12
    | 1 => View.readAt (Elt F) v12 (Rect.unit (s := S4x512x256) ![1, 0, 0] S1x512x256.size inb_S4x512x256_S1x512x256_1_0_0).toLoadRect f12
    | 2 => View.readAt (Elt F) v12 (Rect.unit (s := S4x512x256) ![2, 0, 0] S1x512x256.size inb_S4x512x256_S1x512x256_2_0_0).toLoadRect f12
    | _ => View.readAt (Elt F) v12 (Rect.unit (s := S4x512x256) ![3, 0, 0] S1x512x256.size inb_S4x512x256_S1x512x256_3_0_0).toLoadRect f12
  twice := fun
    | 0 => View.readAt (Elt F) v14 (Rect.unit (s := S4x512x256) ![0, 0, 0] S1x512x256.size inb_S4x512x256_S1x512x256_0_0_0).toLoadRect f14
    | 1 => View.readAt (Elt F) v14 (Rect.unit (s := S4x512x256) ![1, 0, 0] S1x512x256.size inb_S4x512x256_S1x512x256_1_0_0).toLoadRect f14
    | 2 => View.readAt (Elt F) v14 (Rect.unit (s := S4x512x256) ![2, 0, 0] S1x512x256.size inb_S4x512x256_S1x512x256_2_0_0).toLoadRect f14
    | _ => View.readAt (Elt F) v14 (Rect.unit (s := S4x512x256) ![3, 0, 0] S1x512x256.size inb_S4x512x256_S1x512x256_3_0_0).toLoadRect f14
  sq := fun
    | 0 => View.readAt (Elt F) v13 (Rect.unit (s := S4x512) ![0, 0] S1x512.size inb_S4x512_S1x512_0_0).toLoadRect f13
    | 1 => View.readAt (Elt F) v13 (Rect.unit (s := S4x512) ![1, 0] S1x512.size inb_S4x512_S1x512_1_0).toLoadRect f13
    | 2 => View.readAt (Elt F) v13 (Rect.unit (s := S4x512) ![2, 0] S1x512.size inb_S4x512_S1x512_2_0).toLoadRect f13
    | _ => View.readAt (Elt F) v13 (Rect.unit (s := S4x512) ![3, 0] S1x512.size inb_S4x512_S1x512_3_0).toLoadRect f13

/-- The two halves of a block of rows. -/
def half0 (v : View sig .tc .vmem S1536x256 .f32) (f : v.ty.Contents (Elt F)) : FVec F S768x256 .f32 :=
  shapeCast S768x256 (View.readAt (Elt F) v (Rect.unit (s := S1536x256) ![0, 0] S768x256.size inb_S1536x256_S768x256_0_0).toLoadRect f)
    shapeCasts_S768x256_S768x256

/-- The upper half of a window's rows. -/
def half1 (v : View sig .tc .vmem S1536x256 .f32) (f : v.ty.Contents (Elt F)) : FVec F S768x256 .f32 :=
  shapeCast S768x256 (View.readAt (Elt F) v (Rect.unit (s := S1536x256) ![768, 0] S768x256.size inb_S1536x256_S768x256_768_0).toLoadRect f)
    shapeCasts_S768x256_S768x256

/-- What the body stores in each window, from its loads and the two halves of its rows. -/
def straightPieces (L : Loads F) (z0 z1 : FVec F S768x256 .f32) : List (View.Piece (Elt F) S1536x256 .f32) :=
  [⟨Rect.unit (s := S1536x256) ![768, 0] S768x256.size inb_S1536x256_S768x256_768_0, subf z1 (res L z1 4)⟩,
   ⟨Rect.unit (s := S1536x256) ![0, 0] S768x256.size inb_S1536x256_S768x256_0_0, subf z0 (res L z0 4)⟩]

/-- The four digits of a half's rows, side by side. -/
def digits (L : Loads F) (z : FVec F S768x256 .f32) : IVec S768x4 32 :=
  concatenate S768x4 1 [⟨S768x1, index (chosen L z 0)⟩, ⟨S768x1, index (chosen L z 1)⟩, ⟨S768x1, index (chosen L z 2)⟩,
    ⟨S768x1, index (chosen L z 3)⟩] concatenates_S768x1_S768x1_S768x1_S768x1_S768x4_d1

/-- What the body stores in the digits' window. -/
def digitPieces (L : Loads F) (z0 z1 : FVec F S768x256 .f32) : List (View.Piece (Elt F) S1536x4 .i32) :=
  [⟨Rect.unit (s := S1536x4) ![768, 0] S768x4.size inb_S1536x4_S768x4_768_0, digits L z1⟩,
   ⟨Rect.unit (s := S1536x4) ![0, 0] S768x4.size inb_S1536x4_S768x4_0_0, digits L z0⟩]

/-- What the body stores in the indices' window. -/
def indexPieces (L : Loads F) (z0 z1 : FVec F S768x256 .f32) : List (View.Piece (Elt F) S1536x1 .i32) :=
  [⟨Rect.unit (s := S1536x1) ![768, 0] S768x1.size inb_S1536x1_S768x1_768_0, composed L z1⟩,
   ⟨Rect.unit (s := S1536x1) ![0, 0] S768x1.size inb_S1536x1_S768x1_0_0, composed L z0⟩]

/-- What the body stores in the vote window: the old votes and both halves'. -/
def countPiece (L : Loads F) (z0 z1 : FVec F S768x256 .f32) (old : Vec F S1x512 .f32) : View.Piece (Elt F) S1x512 .f32 :=
  ⟨Rect.unit (s := S1x512) ![0, 0] S1x512.size inb_S1x512_S1x512_0_0, k0_pay85 (tally L z0) (tally L z1) old⟩

/-- What the body stores in the error window: the old error and both halves'. -/
def errorPiece (L : Loads F) (z0 z1 : FVec F S768x256 .f32) (old : Vec F S1x1 .f32) : View.Piece (Elt F) S1x1 .f32 :=
  ⟨Rect.unit (s := S1x1) ![0, 0] S1x1.size inb_S1x1_S1x1_0_0, k0_pay86 (res L z0 4) (res L z1 4) old⟩

/-- A whole window read, and written. -/
abbrev whole6 : Rect S1x512 := Rect.unit (s := S1x512) ![0, 0] S1x512.size inb_S1x512_S1x512_0_0

/-- A whole one-entry window. -/
abbrev whole7 : Rect S1x1 := Rect.unit (s := S1x1) ![0, 0] S1x1.size inb_S1x1_S1x1_0_0

/-- A whole buffer of codebooks. -/
abbrev whole2 : Rect S4x512x256 := Rect.unit (s := S4x512x256) ![0, 0, 0] S4x512x256.size inb_S4x512x256_S4x512x256_0_0_0

/-- The whole buffer of squared norms. -/
abbrev whole13 : Rect S4x512 := Rect.unit (s := S4x512) ![0, 0] S4x512.size inb_S4x512_S4x512_0_0

set_option maxHeartbeats 4000000 in
/-- At the first point of the grid, what the body stores in the straight-through window. -/
theorem straight_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).1 = straightPieces (loads arg10.view arg11.view arg12.view arg13.view arg14.view (arg10.view.writes (Elt F) arg10.view.junk [⟨whole2, k0_pay8 (View.readAt (Elt F) arg2.view whole2.toLoadRect (harg2.unread x1))⟩]) (arg11.view.writes (Elt F) arg11.view.junk [⟨whole2, k0_pay9 (View.readAt (Elt F) arg2.view whole2.toLoadRect (harg2.unread x1))⟩]) (arg12.view.writes (Elt F) arg12.view.junk [⟨whole2, k0_pay10 (View.readAt (Elt F) arg2.view whole2.toLoadRect (harg2.unread x1))⟩]) (arg13.view.writes (Elt F) arg13.view.junk [⟨whole13, k0_pay11 (View.readAt (Elt F) arg2.view whole2.toLoadRect (harg2.unread x1))⟩]) (arg14.view.writes (Elt F) arg14.view.junk [⟨whole2, k0_pay13 (k0_pay12 (View.readAt (Elt F) arg2.view whole2.toLoadRect (harg2.unread x1)))⟩])) (half0 arg1.view (harg1.unread x0)) (half1 arg1.view (harg1.unread x0)) := by
  unfold kernelRun0_A
  rfl

set_option maxHeartbeats 4000000 in
/-- At the first point of the grid, what the body stores in the digits' window. -/
theorem digit_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.1 = digitPieces (loads arg10.view arg11.view arg12.view arg13.view arg14.view (arg10.view.writes (Elt F) arg10.view.junk [⟨whole2, k0_pay8 (View.readAt (Elt F) arg2.view whole2.toLoadRect (harg2.unread x1))⟩]) (arg11.view.writes (Elt F) arg11.view.junk [⟨whole2, k0_pay9 (View.readAt (Elt F) arg2.view whole2.toLoadRect (harg2.unread x1))⟩]) (arg12.view.writes (Elt F) arg12.view.junk [⟨whole2, k0_pay10 (View.readAt (Elt F) arg2.view whole2.toLoadRect (harg2.unread x1))⟩]) (arg13.view.writes (Elt F) arg13.view.junk [⟨whole13, k0_pay11 (View.readAt (Elt F) arg2.view whole2.toLoadRect (harg2.unread x1))⟩]) (arg14.view.writes (Elt F) arg14.view.junk [⟨whole2, k0_pay13 (k0_pay12 (View.readAt (Elt F) arg2.view whole2.toLoadRect (harg2.unread x1)))⟩])) (half0 arg1.view (harg1.unread x0)) (half1 arg1.view (harg1.unread x0)) := by
  unfold kernelRun0_A
  rfl

set_option maxHeartbeats 4000000 in
/-- At the first point of the grid, what the body stores in the indices' window. -/
theorem index_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.2.1 = indexPieces (loads arg10.view arg11.view arg12.view arg13.view arg14.view (arg10.view.writes (Elt F) arg10.view.junk [⟨whole2, k0_pay8 (View.readAt (Elt F) arg2.view whole2.toLoadRect (harg2.unread x1))⟩]) (arg11.view.writes (Elt F) arg11.view.junk [⟨whole2, k0_pay9 (View.readAt (Elt F) arg2.view whole2.toLoadRect (harg2.unread x1))⟩]) (arg12.view.writes (Elt F) arg12.view.junk [⟨whole2, k0_pay10 (View.readAt (Elt F) arg2.view whole2.toLoadRect (harg2.unread x1))⟩]) (arg13.view.writes (Elt F) arg13.view.junk [⟨whole13, k0_pay11 (View.readAt (Elt F) arg2.view whole2.toLoadRect (harg2.unread x1))⟩]) (arg14.view.writes (Elt F) arg14.view.junk [⟨whole2, k0_pay13 (k0_pay12 (View.readAt (Elt F) arg2.view whole2.toLoadRect (harg2.unread x1)))⟩])) (half0 arg1.view (harg1.unread x0)) (half1 arg1.view (harg1.unread x0)) := by
  unfold kernelRun0_A
  rfl

set_option maxHeartbeats 4000000 in
/-- At the first point of the grid, what the body stores in the vote window. -/
theorem count_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.2.2.1 = [countPiece (loads arg10.view arg11.view arg12.view arg13.view arg14.view (arg10.view.writes (Elt F) arg10.view.junk [⟨whole2, k0_pay8 (View.readAt (Elt F) arg2.view whole2.toLoadRect (harg2.unread x1))⟩]) (arg11.view.writes (Elt F) arg11.view.junk [⟨whole2, k0_pay9 (View.readAt (Elt F) arg2.view whole2.toLoadRect (harg2.unread x1))⟩]) (arg12.view.writes (Elt F) arg12.view.junk [⟨whole2, k0_pay10 (View.readAt (Elt F) arg2.view whole2.toLoadRect (harg2.unread x1))⟩]) (arg13.view.writes (Elt F) arg13.view.junk [⟨whole13, k0_pay11 (View.readAt (Elt F) arg2.view whole2.toLoadRect (harg2.unread x1))⟩]) (arg14.view.writes (Elt F) arg14.view.junk [⟨whole2, k0_pay13 (k0_pay12 (View.readAt (Elt F) arg2.view whole2.toLoadRect (harg2.unread x1)))⟩])) (half0 arg1.view (harg1.unread x0)) (half1 arg1.view (harg1.unread x0)) (arg6.view.readCov [⟨whole6, k0_pay3⟩] whole6.toLoadRect), ⟨whole6, k0_pay3⟩] := by
  unfold kernelRun0_A
  rfl

set_option maxHeartbeats 4000000 in
/-- At the first point of the grid, what the body stores in the error window. -/
theorem error_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.1 = [errorPiece (loads arg10.view arg11.view arg12.view arg13.view arg14.view (arg10.view.writes (Elt F) arg10.view.junk [⟨whole2, k0_pay8 (View.readAt (Elt F) arg2.view whole2.toLoadRect (harg2.unread x1))⟩]) (arg11.view.writes (Elt F) arg11.view.junk [⟨whole2, k0_pay9 (View.readAt (Elt F) arg2.view whole2.toLoadRect (harg2.unread x1))⟩]) (arg12.view.writes (Elt F) arg12.view.junk [⟨whole2, k0_pay10 (View.readAt (Elt F) arg2.view whole2.toLoadRect (harg2.unread x1))⟩]) (arg13.view.writes (Elt F) arg13.view.junk [⟨whole13, k0_pay11 (View.readAt (Elt F) arg2.view whole2.toLoadRect (harg2.unread x1))⟩]) (arg14.view.writes (Elt F) arg14.view.junk [⟨whole2, k0_pay13 (k0_pay12 (View.readAt (Elt F) arg2.view whole2.toLoadRect (harg2.unread x1)))⟩])) (half0 arg1.view (harg1.unread x0)) (half1 arg1.view (harg1.unread x0)) (arg7.view.readCov [⟨whole7, k0_pay4⟩] whole7.toLoadRect), ⟨whole7, k0_pay4⟩] := by
  unfold kernelRun0_A
  rfl

set_option maxHeartbeats 4000000 in
/-- At the first point of the grid, the body stores the first part of the split codebooks in scratch. -/
theorem scratch0_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.2.1 = [⟨whole2, k0_pay8 (View.readAt (Elt F) arg2.view whole2.toLoadRect (harg2.unread x1))⟩] := by
  unfold kernelRun0_A
  rfl

set_option maxHeartbeats 4000000 in
/-- At the first point of the grid, the body stores the second part of the split codebooks in scratch. -/
theorem scratch1_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.2.2.1 = [⟨whole2, k0_pay9 (View.readAt (Elt F) arg2.view whole2.toLoadRect (harg2.unread x1))⟩] := by
  unfold kernelRun0_A
  rfl

set_option maxHeartbeats 4000000 in
/-- At the first point of the grid, the body stores the third part of the split codebooks in scratch. -/
theorem scratch2_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.2.2.2.1 = [⟨whole2, k0_pay10 (View.readAt (Elt F) arg2.view whole2.toLoadRect (harg2.unread x1))⟩] := by
  unfold kernelRun0_A
  rfl

set_option maxHeartbeats 4000000 in
/-- At the first point of the grid, the body stores the codes' squared norms in scratch. -/
theorem scratch3_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.2.2.2.2.1 = [⟨whole13, k0_pay11 (View.readAt (Elt F) arg2.view whole2.toLoadRect (harg2.unread x1))⟩] := by
  unfold kernelRun0_A
  rfl

set_option maxHeartbeats 4000000 in
/-- At the first point of the grid, the body stores the doubled codebooks in scratch. -/
theorem scratch4_A (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : cond0_0 i) (hc1 : ¬cond0_1 i)
    (x0 : Vec F S1536x256 .f32) (x1 : Vec F S4x512x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.2.2.2.2.2.1 = [⟨whole2, k0_pay13 (k0_pay12 (View.readAt (Elt F) arg2.view whole2.toLoadRect (harg2.unread x1)))⟩] := by
  unfold kernelRun0_A
  rfl

set_option maxHeartbeats 4000000 in
/-- At a middle point of the grid, what the body stores in the straight-through window. -/
theorem straight_B (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : ¬cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).1 = straightPieces (loads arg10.view arg11.view arg12.view arg13.view arg14.view (harg10.unread xs0) (harg11.unread xs1) (harg12.unread xs2) (harg13.unread xs3) (harg14.unread xs4)) (half0 arg1.view (harg1.unread x0)) (half1 arg1.view (harg1.unread x0)) := by
  unfold kernelRun0_B
  rfl

set_option maxHeartbeats 4000000 in
/-- At a middle point of the grid, what the body stores in the digits' window. -/
theorem digit_B (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : ¬cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.1 = digitPieces (loads arg10.view arg11.view arg12.view arg13.view arg14.view (harg10.unread xs0) (harg11.unread xs1) (harg12.unread xs2) (harg13.unread xs3) (harg14.unread xs4)) (half0 arg1.view (harg1.unread x0)) (half1 arg1.view (harg1.unread x0)) := by
  unfold kernelRun0_B
  rfl

set_option maxHeartbeats 4000000 in
/-- At a middle point of the grid, what the body stores in the indices' window. -/
theorem index_B (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : ¬cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.2.1 = indexPieces (loads arg10.view arg11.view arg12.view arg13.view arg14.view (harg10.unread xs0) (harg11.unread xs1) (harg12.unread xs2) (harg13.unread xs3) (harg14.unread xs4)) (half0 arg1.view (harg1.unread x0)) (half1 arg1.view (harg1.unread x0)) := by
  unfold kernelRun0_B
  rfl

set_option maxHeartbeats 4000000 in
/-- At a middle point of the grid, what the body stores in the vote window. -/
theorem count_B (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : ¬cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.2.2.1 = [countPiece (loads arg10.view arg11.view arg12.view arg13.view arg14.view (harg10.unread xs0) (harg11.unread xs1) (harg12.unread xs2) (harg13.unread xs3) (harg14.unread xs4)) (half0 arg1.view (harg1.unread x0)) (half1 arg1.view (harg1.unread x0)) (View.readAt (Elt F) arg6.view whole6.toLoadRect (harg6.unread xo5))] := by
  unfold kernelRun0_B
  rfl

set_option maxHeartbeats 4000000 in
/-- At a middle point of the grid, what the body stores in the error window. -/
theorem error_B (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : ¬cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.2.2.2.1 = [errorPiece (loads arg10.view arg11.view arg12.view arg13.view arg14.view (harg10.unread xs0) (harg11.unread xs1) (harg12.unread xs2) (harg13.unread xs3) (harg14.unread xs4)) (half0 arg1.view (harg1.unread x0)) (half1 arg1.view (harg1.unread x0)) (View.readAt (Elt F) arg7.view whole7.toLoadRect (harg7.unread xo6))] := by
  unfold kernelRun0_B
  rfl

set_option maxHeartbeats 4000000 in
/-- At the last point of the grid, what the body stores in the straight-through window. -/
theorem straight_C (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).1 = straightPieces (loads arg10.view arg11.view arg12.view arg13.view arg14.view (harg10.unread xs0) (harg11.unread xs1) (harg12.unread xs2) (harg13.unread xs3) (harg14.unread xs4)) (half0 arg1.view (harg1.unread x0)) (half1 arg1.view (harg1.unread x0)) := by
  unfold kernelRun0_C
  rfl

set_option maxHeartbeats 4000000 in
/-- At the last point of the grid, what the body stores in the digits' window. -/
theorem digit_C (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.1 = digitPieces (loads arg10.view arg11.view arg12.view arg13.view arg14.view (harg10.unread xs0) (harg11.unread xs1) (harg12.unread xs2) (harg13.unread xs3) (harg14.unread xs4)) (half0 arg1.view (harg1.unread x0)) (half1 arg1.view (harg1.unread x0)) := by
  unfold kernelRun0_C
  rfl

set_option maxHeartbeats 4000000 in
/-- At the last point of the grid, what the body stores in the indices' window. -/
theorem index_C (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.2.1 = indexPieces (loads arg10.view arg11.view arg12.view arg13.view arg14.view (harg10.unread xs0) (harg11.unread xs1) (harg12.unread xs2) (harg13.unread xs3) (harg14.unread xs4)) (half0 arg1.view (harg1.unread x0)) (half1 arg1.view (harg1.unread x0)) := by
  unfold kernelRun0_C
  rfl

set_option maxHeartbeats 4000000 in
/-- At the last point of the grid, what the body stores in the vote window. -/
theorem count_C (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.2.2.1 = [countPiece (loads arg10.view arg11.view arg12.view arg13.view arg14.view (harg10.unread xs0) (harg11.unread xs1) (harg12.unread xs2) (harg13.unread xs3) (harg14.unread xs4)) (half0 arg1.view (harg1.unread x0)) (half1 arg1.view (harg1.unread x0)) (View.readAt (Elt F) arg6.view whole6.toLoadRect (harg6.unread xo5))] := by
  unfold kernelRun0_C
  rfl

set_option maxHeartbeats 4000000 in
/-- At the last point of the grid, what the body stores in the error window. -/
theorem error_C (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.2.2.2.1 = [errorPiece (loads arg10.view arg11.view arg12.view arg13.view arg14.view (harg10.unread xs0) (harg11.unread xs1) (harg12.unread xs2) (harg13.unread xs3) (harg14.unread xs4)) (half0 arg1.view (harg1.unread x0)) (half1 arg1.view (harg1.unread x0)) (View.readAt (Elt F) arg7.view whole7.toLoadRect (harg7.unread xo6))] := by
  unfold kernelRun0_C
  rfl

set_option maxHeartbeats 4000000 in
/-- At the last point of the grid, the body stores the loss. -/
theorem loss_C (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.2.2.2.2.1 = [⟨whole7, k0_pay2 (arg7.view.readCov [errorPiece (loads arg10.view arg11.view arg12.view arg13.view arg14.view (harg10.unread xs0) (harg11.unread xs1) (harg12.unread xs2) (harg13.unread xs3) (harg14.unread xs4)) (half0 arg1.view (harg1.unread x0)) (half1 arg1.view (harg1.unread x0)) (View.readAt (Elt F) arg7.view whole7.toLoadRect (harg7.unread xo6))] whole7.toLoadRect)⟩] := by
  unfold kernelRun0_C
  rfl

set_option maxHeartbeats 4000000 in
/-- At the last point of the grid, the body stores the perplexity. -/
theorem perp_C (c : Dev nD) (i : grid0.Coords) (arg1 : Memref sig .tc .vmem S1536x256 .f32) (harg1 : arg1.IsWhole) (arg2 : Memref sig .tc .vmem S4x512x256 .f32) (harg2 : arg2.IsWhole) (arg3 : Memref sig .tc .vmem S1536x256 .f32) (harg3 : arg3.IsWhole) (arg4 : Memref sig .tc .vmem S1536x4 .i32) (harg4 : arg4.IsWhole) (arg5 : Memref sig .tc .vmem S1536x1 .i32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S4x512x256 .f32) (harg10 : arg10.IsWhole) (arg11 : Memref sig .tc .vmem S4x512x256 .f32) (harg11 : arg11.IsWhole) (arg12 : Memref sig .tc .vmem S4x512x256 .f32) (harg12 : arg12.IsWhole) (arg13 : Memref sig .tc .vmem S4x512 .f32) (harg13 : arg13.IsWhole) (arg14 : Memref sig .tc .vmem S4x512x256 .f32) (harg14 : arg14.IsWhole) (hc0 : ¬cond0_0 i) (hc1 : cond0_1 i)
    (x0 : Vec F S1536x256 .f32) (x1 : Vec F S4x512x256 .f32) (xo5 : Vec F S1x512 .f32) (xo6 : Vec F S1x1 .f32) (xs0 : Vec F S4x512x256 .f32) (xs1 : Vec F S4x512x256 .f32) (xs2 : Vec F S4x512x256 .f32) (xs3 : Vec F S4x512 .f32) (xs4 : Vec F S4x512x256 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 xo5 xo6 xs0 xs1 xs2 xs3 xs4).2.2.2.2.2.2.1 = [⟨whole7, k0_pay1 (arg6.view.readCov [countPiece (loads arg10.view arg11.view arg12.view arg13.view arg14.view (harg10.unread xs0) (harg11.unread xs1) (harg12.unread xs2) (harg13.unread xs3) (harg14.unread xs4)) (half0 arg1.view (harg1.unread x0)) (half1 arg1.view (harg1.unread x0)) (View.readAt (Elt F) arg6.view whole6.toLoadRect (harg6.unread xo5))] whole6.toLoadRect)⟩] := by
  unfold kernelRun0_C
  rfl

end Cert.Proof.KernelStage

end
-- ==== Proof.KernelBlock.lean ====
/-
  What the kernel's body leaves in its windows, over the extended reals: each row of a block gets its straight-through
  values, its digits and its composed index, and the block adds its votes and its squared error to the two sums.
-/
module

public import proofs.«01_k».proof.Proof.KernelRow
public import proofs.«01_k».proof.Proof.KernelPieces
public import Idealize.ShloMosaic.Lib.Pipeline.ValueKit.Tiles

@[expose] public section

noncomputable section

namespace Cert.Proof.KernelStage

open Cert.KernelIdeal Cert.KernelIdeal.Gen Cert.Proof.Nearest
open Idealize.ShloMosaic Idealize.ShloMosaic.TcCoe Idealize.SL.Sem

/-- The codebooks of an array of four, and a row of a block. -/
def books (B : Vec Ideal S4x512x256 .f32) (s : ℕ) : Book := fun k d => B (ix3 (Fin.ofNat 4 s) k d)

/-- Row `r` of a block. -/
def rowOf (X : Vec Ideal S1536x256 .f32) (r : Fin 1536) : Row := fun d => X (ix2 r d)

/-- The positions of the two halves of a block. -/
def low (x : Fin 768) : Fin 1536 := ⟨x.val, by omega⟩

/-- Position `x` of the upper half. -/
def high (x : Fin 768) : Fin 1536 := ⟨768 + x.val, by omega⟩

/-- The first load takes the lower half's rows. -/
theorem half0_apply (v : View sig .tc .vmem S1536x256 .f32) (f : v.ty.Contents (Elt Ideal)) (x : Fin 768) (d : Fin 256) :
    half0 v f (ix2 x d) = v.read (Elt Ideal) f (ix2 (low x) d) := by
  pointwise [half0]
  exact View.ld_unit_apply_of (v.read (Elt Ideal) f) _ _ _ _ _ fun a => by
    fin_cases a <;> simp [low, ix2]

/-- The second load takes the upper half's rows. -/
theorem half1_apply (v : View sig .tc .vmem S1536x256 .f32) (f : v.ty.Contents (Elt Ideal)) (x : Fin 768) (d : Fin 256) :
    half1 v f (ix2 x d) = v.read (Elt Ideal) f (ix2 (high x) d) := by
  pointwise [half1]
  exact View.ld_unit_apply_of (v.read (Elt Ideal) f) _ _ _ _ _ fun a => by
    fin_cases a <;> simp [high, ix2]

section
variable (B : Vec Ideal S4x512x256 .f32) (hB : ∀ s, s < 4 → Finite (books B s))

/-- The first part of the split codebook is the codebook itself. -/
theorem pay8_apply (s : Fin 4) (k : Fin 512) (d : Fin 256) : k0_pay8 B (ix3 s k d) = B (ix3 s k d) := by
  pointwise [k0_pay8, k0_pay5]
  done
include hB in
/-- The second part of the split is zero, the codes being finite. -/
theorem pay9_apply (s : Fin 4) (k : Fin 512) (d : Fin 256) : k0_pay9 B (ix3 s k d) = 0 := by
  pointwise [k0_pay9, k0_pay7, k0_pay6, k0_pay5]
  refine sub_self_of_real ?_
  have := hB s.val s.isLt k d
  simpa [books, Fin.ofNat_eq_cast] using this
include hB in
/-- The third part of the split is zero, the codes being finite. -/
theorem pay10_apply (s : Fin 4) (k : Fin 512) (d : Fin 256) : k0_pay10 B (ix3 s k d) = 0 := by
  have h : B (ix3 s k d) - B (ix3 s k d) = 0 := by
    refine sub_self_of_real ?_
    have := hB s.val s.isLt k d
    simpa [books, Fin.ofNat_eq_cast] using this
  pointwise [k0_pay10, k0_pay7, k0_pay6, k0_pay5]
  rw [h, sub_zero]

/-- The stored squared norms of the codes. -/
theorem pay11_apply (s : Fin 4) (k : Fin 512) : k0_pay11 B (ix2 s k) = ∑ d : Fin 256, B (ix3 s k d) * B (ix3 s k d) := by
  pointwise [k0_pay11]
  done

/-- The stored doubled codebook. -/
theorem pay13_apply (s : Fin 4) (k : Fin 512) (d : Fin 256) :
    k0_pay13 (k0_pay12 B) (ix3 s k d) = B (ix3 s k d) + B (ix3 s k d) := by
  pointwise [k0_pay13, k0_pay12]
  done

include hB in
/-- Scratch buffers reading as the prepared codebooks make the quantisers' loads hold the codebooks. -/
theorem loads_hold (v10 v11 v12 : View sig .tc .vmem S4x512x256 .f32) (v13 : View sig .tc .vmem S4x512 .f32)
    (v14 : View sig .tc .vmem S4x512x256 .f32) (f10 : v10.ty.Contents (Elt Ideal)) (f11 : v11.ty.Contents (Elt Ideal))
    (f12 : v12.ty.Contents (Elt Ideal)) (f13 : v13.ty.Contents (Elt Ideal)) (f14 : v14.ty.Contents (Elt Ideal))
    (h10 : v10.read (Elt Ideal) f10 = k0_pay8 B) (h11 : v11.read (Elt Ideal) f11 = k0_pay9 B)
    (h12 : v12.read (Elt Ideal) f12 = k0_pay10 B) (h13 : v13.read (Elt Ideal) f13 = k0_pay11 B)
    (h14 : v14.read (Elt Ideal) f14 = k0_pay13 (k0_pay12 B)) :
    Holds (loads v10 v11 v12 v13 v14 f10 f11 f12 f13 f14) (books B) where
  finite := hB
  hi s hs k d := by
    refine Eq.trans (b := v10.read (Elt Ideal) f10 (ix3 (Fin.ofNat 4 s) k d)) ?_ (by rw [h10, pay8_apply]; rfl)
    interval_cases s <;>
    exact View.ld_unit_apply_of (v10.read (Elt Ideal) f10) _ _ _ _ _ fun a => by fin_cases a <;> simp [ix3]
  mid s hs k d := by
    refine Eq.trans (b := v11.read (Elt Ideal) f11 (ix3 (Fin.ofNat 4 s) k d)) ?_ (by rw [h11, pay9_apply B hB])
    interval_cases s <;>
    exact View.ld_unit_apply_of (v11.read (Elt Ideal) f11) _ _ _ _ _ fun a => by fin_cases a <;> simp [ix3]
  lo s hs k d := by
    refine Eq.trans (b := v12.read (Elt Ideal) f12 (ix3 (Fin.ofNat 4 s) k d)) ?_ (by rw [h12, pay10_apply B hB])
    interval_cases s <;>
    exact View.ld_unit_apply_of (v12.read (Elt Ideal) f12) _ _ _ _ _ fun a => by fin_cases a <;> simp [ix3]
  twice s hs k d := by
    refine Eq.trans (b := v14.read (Elt Ideal) f14 (ix3 (Fin.ofNat 4 s) k d)) ?_ (by rw [h14, pay13_apply]; rfl)
    interval_cases s <;>
    exact View.ld_unit_apply_of (v14.read (Elt Ideal) f14) _ _ _ _ _ fun a => by fin_cases a <;> simp [ix3]
  sq s hs k := by
    refine Eq.trans (b := v13.read (Elt Ideal) f13 (ix2 (Fin.ofNat 4 s) k)) ?_ (by rw [h13, pay11_apply]; rfl)
    interval_cases s <;>
    exact View.ld_unit_apply_of (v13.read (Elt Ideal) f13) _ _ _ _ _ fun a => by fin_cases a <;> simp [ix2]
end

/-- Two stores of half a block each, read at a row. -/
theorem halves {e : EltTy} {n : ℕ} (p1 p0 : (⟨2, ![768, n]⟩ : Shape).Idx → Elt Ideal e) (inb1 inb0) (G : Fin 1536 → Fin n → Elt Ideal e)
    (h1 : ∀ x d, p1 (ix2 x d) = G (high x) d) (h0 : ∀ x d, p0 (ix2 x d) = G (low x) d) (r : Fin 1536) (d : Fin n) :
    View.canon (Val := Elt Ideal) [(⟨Rect.unit (s := ⟨2, ![1536, n]⟩) ![768, 0] ![768, n] inb1, p1⟩ : View.Piece (Elt Ideal) ⟨2, ![1536, n]⟩ e),
      ⟨Rect.unit (s := ⟨2, ![1536, n]⟩) ![0, 0] ![768, n] inb0, p0⟩] (ix2 r d) = G r d := by
  by_cases h : 768 ≤ r.val
  · have hr : r = high ⟨r.val - 768, by omega⟩ := Fin.ext (by simp only [high]; omega)
    have hi : (ix2 r d : (⟨2, ![1536, n]⟩ : Shape).Idx)
        = (Rect.unit (s := ⟨2, ![1536, n]⟩) ![768, 0] ![768, n] inb1).emb (ix2 ⟨r.val - 768, by omega⟩ d) := by
      funext a
      refine Fin.ext ((Rect.idx_unit_val _ _ inb1 _ a).trans ?_).symm
      fin_cases a <;> simp [ix2]; omega
    rw [hi, View.canon_cons_emb, h1, ← hr]
  · rw [View.canon_cons_of_not_mem]
    · have hi : (ix2 r d : (⟨2, ![1536, n]⟩ : Shape).Idx)
          = (Rect.unit (s := ⟨2, ![1536, n]⟩) ![0, 0] ![768, n] inb0).emb (ix2 ⟨r.val, by omega⟩ d) := by
        funext a
        refine Fin.ext ((Rect.idx_unit_val _ _ inb0 _ a).trans ?_).symm
        fin_cases a <;> simp [ix2]
      rw [hi, View.canon_cons_emb, h0]
      rfl
    · intro hm
      have hm : (ix2 r d : (⟨2, ![1536, n]⟩ : Shape).Idx) ∈ (Rect.unit (s := ⟨2, ![1536, n]⟩) ![768, 0] ![768, n] inb1).set := hm
      have : 768 ≤ r.val := (Rect.mem_set_unit.mp hm 0).1
      omega

section
variable {L : Loads Ideal} {C : ℕ → Book} (hL : Holds L C) (X : Vec Ideal S1536x256 .f32) (z0 z1 : FVec Ideal S768x256 .f32)
  (h0 : ∀ x d, z0 (ix2 x d) = X (ix2 (low x) d)) (h1 : ∀ x d, z1 (ix2 x d) = X (ix2 (high x) d))

omit hL in
/-- A row of the lower half is that row of the block. -/
theorem row_low (h0 : ∀ x d, z0 (ix2 x d) = X (ix2 (low x) d)) (x : Fin 768) : (fun d => z0 (ix2 x d)) = rowOf X (low x) :=
  funext fun d => h0 x d
omit hL in
/-- A row of the upper half is that row of the block. -/
theorem row_high (h1 : ∀ x d, z1 (ix2 x d) = X (ix2 (high x) d)) (x : Fin 768) : (fun d => z1 (ix2 x d)) = rowOf X (high x) :=
  funext fun d => h1 x d

include hL h0 h1

/-- The straight-through window: each row less what four quantisers leave of it. -/
theorem straight_canon (r : Fin 1536) (d : Fin 256) :
    View.canon (straightPieces L z0 z1) (ix2 r d) = rowOf X r d - left C (rowOf X r) 4 d :=
  halves (e := .f32) _ _ _ _ (fun r d => rowOf X r d - left C (rowOf X r) 4 d)
    (fun x d => by
      pointwise
      rw [res_row hL z1 x 4 le_rfl, row_high X z1 h1, h1]; rfl)
    (fun x d => by
      pointwise
      rw [res_row hL z0 x 4 le_rfl, row_low X z0 h0, h0]; rfl) r d

omit h0 h1 in
/-- The digits of a half's row. -/
theorem digits_apply (z : FVec Ideal S768x256 .f32) (x : Fin 768) (s : Fin 4) :
    digits L z (ix2 x s) = BitVec.ofNat 32 (digit C (fun d => z (ix2 x d)) s.val).val := by
  have e : digits L z (ix2 x s) = index (chosen L z s.val) (ix2 x 0) := by
    fin_cases s <;> pointwise [digits]
  rw [e, index_row hL z x s.val s.isLt]

/-- The digits' window: the four codes of each row. -/
theorem digit_canon (r : Fin 1536) (s : Fin 4) :
    View.canon (digitPieces L z0 z1) (ix2 r s) = BitVec.ofNat 32 (digit C (rowOf X r) s.val).val :=
  halves (e := .i32) _ _ _ _ (fun r (s : Fin 4) => BitVec.ofNat 32 (digit C (rowOf X r) s.val).val)
    (fun x s => by rw [digits_apply hL, row_high X z1 h1])
    (fun x s => by rw [digits_apply hL, row_low X z0 h0]) r s

/-- The indices' window: the composed index of each row. -/
theorem index_canon (r : Fin 1536) :
    View.canon (indexPieces L z0 z1) (ix2 r 0) = compose C (rowOf X r) :=
  halves (e := .i32) _ _ _ _ (fun r (_ : Fin 1) => compose C (rowOf X r))
    (fun x u => by rw [show u = 0 from Subsingleton.elim _ _, composed_row hL, row_high X z1 h1])
    (fun x u => by rw [show u = 0 from Subsingleton.elim _ _, composed_row hL, row_low X z0 h0]) r 0

/-- The vote window: the old votes and those of the block's rows. -/
theorem count_canon (old : Vec Ideal S1x512 .f32) (l) (k : Fin 512) :
    View.canon (countPiece L z0 z1 old :: l) (ix2 0 k)
      = old (ix2 0 k) + ∑ x : Fin 768, (votes C (rowOf X (low x)) k + votes C (rowOf X (high x)) k) := by
  unfold countPiece
  rw [View.canon_cons_unit_zero (by funext a; fin_cases a <;> rfl)]
  pointwise [k0_pay85]
  refine congrArg₂ _ rfl (Finset.sum_congr rfl fun x _ => ?_)
  rw [tally_row hL, tally_row hL, row_low X z0 h0, row_high X z1 h1]

/-- The error window: the old error and that of the block's rows. -/
theorem error_canon (old : Vec Ideal S1x1 .f32) (l) :
    View.canon (errorPiece L z0 z1 old :: l) (ix2 0 0)
      = old (ix2 0 0) + ∑ x : Fin 768, ((∑ d, left C (rowOf X (low x)) 4 d * left C (rowOf X (low x)) 4 d)
          + ∑ d, left C (rowOf X (high x)) 4 d * left C (rowOf X (high x)) 4 d) := by
  unfold errorPiece
  rw [View.canon_cons_unit_zero (by funext a; fin_cases a <;> rfl)]
  pointwise [k0_pay86]
  rw [Finset.sum_add_distrib]
  simp only [res_row hL z0 _ 4 le_rfl, res_row hL z1 _ 4 le_rfl, row_low X z0 h0, row_high X z1 h1]
end

end Cert.Proof.KernelStage

end
-- ==== Proof.KernelPoints.lean ====
/-
  What the windows and the scratch buffers hold after the body at each point of the grid.
-/
module

public import proofs.«01_k».proof.Proof.KernelBlock

@[expose] public section

set_option maxRecDepth 16384

noncomputable section

namespace Cert.Proof.KernelStage

open Cert.KernelIdeal Cert.KernelIdeal.Gen Cert.Proof.Nearest
open Idealize.ShloMosaic Idealize.ShloMosaic.TcCoe Idealize.SL.Sem

/-- The windows' and the scratch buffers' contents after a point. -/
abbrev Outs := Vec Ideal S1536x256 .f32 × Vec Ideal S1536x4 .i32 × Vec Ideal S1536x1 .i32 × Vec Ideal S1x512 .f32 × Vec Ideal S1x1 .f32
  × Vec Ideal S1x1 .f32 × Vec Ideal S1x1 .f32 × Vec Ideal S4x512x256 .f32 × Vec Ideal S4x512x256 .f32 × Vec Ideal S4x512x256 .f32
  × Vec Ideal S4x512 .f32 × Vec Ideal S4x512x256 .f32

/-- The votes and the squared error of a block. -/
def blockVotes (C : ℕ → Book) (X : Vec Ideal S1536x256 .f32) (k : Fin 512) : EReal :=
  ∑ x : Fin 768, (votes C (rowOf X (low x)) k + votes C (rowOf X (high x)) k)

/-- The squared error of a block. -/
def blockError (C : ℕ → Book) (X : Vec Ideal S1536x256 .f32) : EReal :=
  ∑ x : Fin 768, ((∑ d, left C (rowOf X (low x)) 4 d * left C (rowOf X (low x)) 4 d)
    + ∑ d, left C (rowOf X (high x)) 4 d * left C (rowOf X (high x)) 4 d)

/-- The contents after a point at the block `X`, from the sums `c5` and `c6` before it. -/
structure Point (B : Vec Ideal S4x512x256 .f32) (X : Vec Ideal S1536x256 .f32) (c5 : Fin 512 → EReal) (c6 : EReal) (o : Outs) : Prop where
  q : ∀ r d, o.1 (ix2 r d) = rowOf X r d - left (books B) (rowOf X r) 4 d
  dig : ∀ r (s : Fin 4), o.2.1 (ix2 r s) = BitVec.ofNat 32 (digit (books B) (rowOf X r) s.val).val
  idx : ∀ r, o.2.2.1 (ix2 r 0) = compose (books B) (rowOf X r)
  cnt : ∀ k, o.2.2.2.1 (ix2 0 k) = c5 k + blockVotes (books B) X k
  err : o.2.2.2.2.1 (ix2 0 0) = c6 + blockError (books B) X
  s0 : o.2.2.2.2.2.2.2.1 = k0_pay8 B
  s1 : o.2.2.2.2.2.2.2.2.1 = k0_pay9 B
  s2 : o.2.2.2.2.2.2.2.2.2.1 = k0_pay10 B
  s3 : o.2.2.2.2.2.2.2.2.2.2.1 = k0_pay11 B
  s4 : o.2.2.2.2.2.2.2.2.2.2.2 = k0_pay13 (k0_pay12 B)

/-- Reading a whole buffer of codebooks gives its contents. -/
theorem whole2_read (B : Vec Ideal S4x512x256 .f32) (a : Memref sig .tc .vmem S4x512x256 .f32) (h : a.IsWhole) :
    View.readAt (Elt Ideal) a.view whole2.toLoadRect (h.unread B) = B := by
  rw [View.readAt_eq_ld, h.read_unread]
  exact View.ld_unit_zero (by funext a; fin_cases a <;> rfl) _ _

/-- Reading the whole vote window gives its contents. -/
theorem whole6_read (B : Vec Ideal S1x512 .f32) (a : Memref sig .tc .vmem S1x512 .f32) (h : a.IsWhole) :
    View.readAt (Elt Ideal) a.view whole6.toLoadRect (h.unread B) = B := by
  rw [View.readAt_eq_ld, h.read_unread]
  exact View.ld_unit_zero (by funext a; fin_cases a <;> rfl) _ _

/-- Reading a whole one-entry window gives its contents. -/
theorem whole7_read (B : Vec Ideal S1x1 .f32) (a : Memref sig .tc .vmem S1x1 .f32) (h : a.IsWhole) :
    View.readAt (Elt Ideal) a.view whole7.toLoadRect (h.unread B) = B := by
  rw [View.readAt_eq_ld, h.read_unread]
  exact View.ld_unit_zero (by funext a; fin_cases a <;> rfl) _ _

/-- A buffer of codebooks written whole holds what was written. -/
theorem whole2_written (B : Vec Ideal S4x512x256 .f32) (v : View sig .tc .vmem S4x512x256 .f32) :
    v.read (Elt Ideal) (v.writes (Elt Ideal) v.junk [⟨whole2, B⟩]) = B := by
  funext y
  rw [View.read_writes_junk_apply_eq_canon, View.canon_unit_zero (by funext a; fin_cases a <;> rfl)]

/-- The buffer of squared norms written whole holds what was written. -/
theorem whole13_written (B : Vec Ideal S4x512 .f32) (v : View sig .tc .vmem S4x512 .f32) :
    v.read (Elt Ideal) (v.writes (Elt Ideal) v.junk [⟨whole13, B⟩]) = B := by
  funext y
  rw [View.read_writes_junk_apply_eq_canon, View.canon_unit_zero (by funext a; fin_cases a <;> rfl)]

/-- The votes start at zero. -/
theorem pay3_apply (k : Fin 512) : k0_pay3 (F := Ideal) (ix2 0 k) = 0 := by
  pointwise [k0_pay3]
  done

/-- The error starts at zero. -/
theorem pay4_apply : k0_pay4 (F := Ideal) (ix2 0 0) = 0 := by
  pointwise [k0_pay4]
  done

set_option maxHeartbeats 4000000 in
/-- The first point fills the scratch buffers and starts both sums with its block. -/
theorem point_A (m : (ℓ : Loc nD τ sig) → Buf (Elt Ideal) ℓ) (c : Dev nD) (t : Fin cfg0.N) (h0 : t.val % 6 = 0) (h1 : ¬t.val % 6 = 5) (hB : ∀ s, s < 4 → Finite (books (iblk m c 1 t) s)) :
    Point (iblk m c 1 t) (iblk m c 0 t) (fun _ => 0) 0 (outsAt0 m c t.val t.isLt) := by
  rw [outsAt0_A m c t h0 h1]
  exact {
    q r d := by
      dsimp only
      unfold out0_A_2
      rw [View.read_writes_junk_apply_eq_canon, straight_A]
      exact straight_canon (loads_hold (iblk m c 1 t) hB _ _ _ _ _ _ _ _ _ _ (by rw [whole2_written, whole2_read]) (by rw [whole2_written, whole2_read]) (by rw [whole2_written, whole2_read]) (by rw [whole13_written, whole2_read]) (by rw [whole2_written, whole2_read])) (iblk m c 0 t) _ _ (fun x d => by rw [half0_apply, Memref.IsWhole.read_unread]) (fun x d => by rw [half1_apply, Memref.IsWhole.read_unread]) r d
    dig r s := by
      dsimp only
      unfold out0_A_3
      rw [View.read_writes_junk_apply_eq_canon, digit_A]
      exact digit_canon (loads_hold (iblk m c 1 t) hB _ _ _ _ _ _ _ _ _ _ (by rw [whole2_written, whole2_read]) (by rw [whole2_written, whole2_read]) (by rw [whole2_written, whole2_read]) (by rw [whole13_written, whole2_read]) (by rw [whole2_written, whole2_read])) (iblk m c 0 t) _ _ (fun x d => by rw [half0_apply, Memref.IsWhole.read_unread]) (fun x d => by rw [half1_apply, Memref.IsWhole.read_unread]) r s
    idx r := by
      dsimp only
      unfold out0_A_4
      rw [View.read_writes_junk_apply_eq_canon, index_A]
      exact index_canon (loads_hold (iblk m c 1 t) hB _ _ _ _ _ _ _ _ _ _ (by rw [whole2_written, whole2_read]) (by rw [whole2_written, whole2_read]) (by rw [whole2_written, whole2_read]) (by rw [whole13_written, whole2_read]) (by rw [whole2_written, whole2_read])) (iblk m c 0 t) _ _ (fun x d => by rw [half0_apply, Memref.IsWhole.read_unread]) (fun x d => by rw [half1_apply, Memref.IsWhole.read_unread]) r
    cnt k := by
      dsimp only
      unfold out0_A_5
      rw [View.read_writes_junk_apply_eq_canon, count_A]
      refine (count_canon (loads_hold (iblk m c 1 t) hB _ _ _ _ _ _ _ _ _ _ (by rw [whole2_written, whole2_read]) (by rw [whole2_written, whole2_read]) (by rw [whole2_written, whole2_read]) (by rw [whole13_written, whole2_read]) (by rw [whole2_written, whole2_read])) (iblk m c 0 t) _ _ (fun x d => by rw [half0_apply, Memref.IsWhole.read_unread]) (fun x d => by rw [half1_apply, Memref.IsWhole.read_unread]) _ _ k).trans ?_
      rw [View.readCov_unit_zero _ (by funext a; fin_cases a <;> rfl), pay3_apply]; rfl
    err := by
      dsimp only
      unfold out0_A_6
      rw [View.read_writes_junk_apply_eq_canon, error_A]
      refine (error_canon (loads_hold (iblk m c 1 t) hB _ _ _ _ _ _ _ _ _ _ (by rw [whole2_written, whole2_read]) (by rw [whole2_written, whole2_read]) (by rw [whole2_written, whole2_read]) (by rw [whole13_written, whole2_read]) (by rw [whole2_written, whole2_read])) (iblk m c 0 t) _ _ (fun x d => by rw [half0_apply, Memref.IsWhole.read_unread]) (fun x d => by rw [half1_apply, Memref.IsWhole.read_unread]) _ _).trans ?_
      rw [View.readCov_unit_zero _ (by funext a; fin_cases a <;> rfl), pay4_apply]; rfl
    s0 := by
      dsimp only
      unfold sout0_A_0
      rw [scratch0_A, whole2_written, whole2_read]
    s1 := by
      dsimp only
      unfold sout0_A_1
      rw [scratch1_A, whole2_written, whole2_read]
    s2 := by
      dsimp only
      unfold sout0_A_2
      rw [scratch2_A, whole2_written, whole2_read]
    s3 := by
      dsimp only
      unfold sout0_A_3
      rw [scratch3_A, whole13_written, whole2_read]
    s4 := by
      dsimp only
      unfold sout0_A_4
      rw [scratch4_A, whole2_written, whole2_read]
  }

set_option maxHeartbeats 4000000 in
/-- A middle point keeps the scratch buffers and adds its block to both sums. -/
theorem point_B (m : (ℓ : Loc nD τ sig) → Buf (Elt Ideal) ℓ) (c : Dev nD) (t : Fin cfg0.N) (B : Vec Ideal S4x512x256 .f32) (X : Vec Ideal S1536x256 .f32) (c5 : Fin 512 → EReal) (c6 : EReal) (h0 : ¬t.val % 6 = 0) (h1 : ¬t.val % 6 = 5) (hB : ∀ s, s < 4 → Finite (books B s))
    (hp : Point B X c5 c6 (outsAt0 m c (t.val - 1) (Nat.lt_of_le_of_lt (Nat.sub_le _ _) t.isLt))) :
    Point B (iblk m c 0 t) (fun k => c5 k + blockVotes (books B) X k) (c6 + blockError (books B) X) (outsAt0 m c t.val t.isLt) := by
  rw [outsAt0_B m c t h0 h1]
  exact {
    q r d := by
      dsimp only
      unfold out0_B_2
      rw [View.read_writes_junk_apply_eq_canon, straight_B]
      exact straight_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) r d
    dig r s := by
      dsimp only
      unfold out0_B_3
      rw [View.read_writes_junk_apply_eq_canon, digit_B]
      exact digit_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) r s
    idx r := by
      dsimp only
      unfold out0_B_4
      rw [View.read_writes_junk_apply_eq_canon, index_B]
      exact index_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) r
    cnt k := by
      dsimp only
      unfold out0_B_5
      rw [View.read_writes_junk_apply_eq_canon, count_B]
      refine (count_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) _ _ k).trans ?_
      rw [whole6_read, hp.cnt]; rfl
    err := by
      dsimp only
      unfold out0_B_6
      rw [View.read_writes_junk_apply_eq_canon, error_B]
      refine (error_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) _ _).trans ?_
      rw [whole7_read, hp.err]; rfl
    s0 := hp.s0
    s1 := hp.s1
    s2 := hp.s2
    s3 := hp.s3
    s4 := hp.s4
  }

set_option maxHeartbeats 4000000 in
/-- The last point does the same and leaves the loss and the perplexity. -/
theorem point_C (m : (ℓ : Loc nD τ sig) → Buf (Elt Ideal) ℓ) (c : Dev nD) (t : Fin cfg0.N) (B : Vec Ideal S4x512x256 .f32) (X : Vec Ideal S1536x256 .f32) (c5 : Fin 512 → EReal) (c6 : EReal) (h0 : ¬t.val % 6 = 0) (h1 : t.val % 6 = 5) (hB : ∀ s, s < 4 → Finite (books B s))
    (hp : Point B X c5 c6 (outsAt0 m c (t.val - 1) (Nat.lt_of_le_of_lt (Nat.sub_le _ _) t.isLt))) :
    Point B (iblk m c 0 t) (fun k => c5 k + blockVotes (books B) X k) (c6 + blockError (books B) X) (outsAt0 m c t.val t.isLt) := by
  rw [outsAt0_C m c t h0 h1]
  exact {
    q r d := by
      dsimp only
      unfold out0_C_2
      rw [View.read_writes_junk_apply_eq_canon, straight_C]
      exact straight_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) r d
    dig r s := by
      dsimp only
      unfold out0_C_3
      rw [View.read_writes_junk_apply_eq_canon, digit_C]
      exact digit_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) r s
    idx r := by
      dsimp only
      unfold out0_C_4
      rw [View.read_writes_junk_apply_eq_canon, index_C]
      exact index_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) r
    cnt k := by
      dsimp only
      unfold out0_C_5
      rw [View.read_writes_junk_apply_eq_canon, count_C]
      refine (count_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) _ _ k).trans ?_
      rw [whole6_read, hp.cnt]; rfl
    err := by
      dsimp only
      unfold out0_C_6
      rw [View.read_writes_junk_apply_eq_canon, error_C]
      refine (error_canon (loads_hold B hB _ _ _ _ _ _ _ _ _ _ (by rw [Memref.IsWhole.read_unread, hp.s0]) (by rw [Memref.IsWhole.read_unread, hp.s1]) (by rw [Memref.IsWhole.read_unread, hp.s2]) (by rw [Memref.IsWhole.read_unread, hp.s3]) (by rw [Memref.IsWhole.read_unread, hp.s4])) (iblk m c 0 t) _ _ (fun x d => by rw [half0_apply, Memref.IsWhole.read_unread]) (fun x d => by rw [half1_apply, Memref.IsWhole.read_unread]) _ _).trans ?_
      rw [whole7_read, hp.err]; rfl
    s0 := hp.s0
    s1 := hp.s1
    s2 := hp.s2
    s3 := hp.s3
    s4 := hp.s4
  }

set_option maxHeartbeats 4000000 in
/-- At the last point the two closing values are made from the two sums. -/
theorem closing_C (m : (ℓ : Loc nD τ sig) → Buf (Elt Ideal) ℓ) (c : Dev nD) (t : Fin cfg0.N) (h0 : ¬t.val % 6 = 0) (h1 : t.val % 6 = 5) :
    (outsAt0 m c t.val t.isLt).2.2.2.2.2.1 = k0_pay2 (outsAt0 m c t.val t.isLt).2.2.2.2.1
      ∧ (outsAt0 m c t.val t.isLt).2.2.2.2.2.2.1 = k0_pay1 (outsAt0 m c t.val t.isLt).2.2.2.1 := by
  rw [outsAt0_C m c t h0 h1]
  constructor
  · dsimp only
    unfold out0_C_7 out0_C_6
    rw [loss_C, error_C]
    funext y
    rw [View.read_writes_junk_apply_eq_canon]
    unfold errorPiece
    rw [View.readCov_unit_zero _ (by funext a; fin_cases a <;> rfl), View.canon_unit_zero (by funext a; fin_cases a <;> rfl)]
    refine congrFun (congrArg k0_pay2 ?_) y
    funext y
    rw [View.read_writes_junk_apply_eq_canon, View.canon_unit_zero (by funext a; fin_cases a <;> rfl)]
  · dsimp only
    unfold out0_C_8 out0_C_5
    rw [perp_C, count_C]
    funext y
    rw [View.read_writes_junk_apply_eq_canon]
    unfold countPiece
    rw [View.readCov_unit_zero _ (by funext a; fin_cases a <;> rfl), View.canon_unit_zero (by funext a; fin_cases a <;> rfl)]
    refine congrFun (congrArg k0_pay1 ?_) y
    funext y
    rw [View.read_writes_junk_apply_eq_canon, View.canon_unit_zero (by funext a; fin_cases a <;> rfl)]

end Cert.Proof.KernelStage

end
-- ==== Proof.KernelArray.lean ====
/-
  The output arrays after the last point of the grid: each row at its place, the sums over all the blocks.
-/
module

public import proofs.«01_k».proof.Proof.KernelPoints
public import Idealize.ShloMosaic.Lib.Pipeline.ValueKit.Geometry

@[expose] public section

set_option maxRecDepth 16384

noncomputable section

namespace Cert.Proof.KernelStage

open Cert.KernelIdeal Cert.KernelIdeal.Gen Cert.Proof.Nearest
open Idealize.ShloMosaic Idealize.ShloMosaic.TcCoe Idealize.ShloMosaic.Pipeline Idealize.SL.Sem

/-- Row `n` of the array of rows, and the block a point of the grid takes of it. -/
def rowIn (Z : Vec Ideal S9216x256 .f32) (n : Fin 9216) : Row := fun d => Z (ix2 n d)

/-- Block `t` of the rows. -/
def blockAt (Z : Vec Ideal S9216x256 .f32) (t : ℕ) : Vec Ideal S1536x256 .f32 :=
  fun y => Z (ix2 (Fin.ofNat 9216 (t * 1536 + (y 0).val)) (y 1))

/-- A row of block `t` is a row of the whole. -/
theorem rowOf_blockAt (Z : Vec Ideal S9216x256 .f32) (t : ℕ) (r : Fin 1536) :
    rowOf (blockAt Z t) r = rowIn Z (Fin.ofNat 9216 (t * 1536 + r.val)) := rfl

/-- The votes and the squared error of the first `t` blocks. -/
def votesTo (C : ℕ → Book) (Z : Vec Ideal S9216x256 .f32) (t : ℕ) (k : Fin 512) : EReal :=
  ∑ i ∈ Finset.range t, blockVotes C (blockAt Z i) k

/-- The squared error of the first `t` blocks. -/
def errorTo (C : ℕ → Book) (Z : Vec Ideal S9216x256 .f32) (t : ℕ) : EReal :=
  ∑ i ∈ Finset.range t, blockError C (blockAt Z i)

/-- The straight-through rows, the digits and the composed indices, row by row. -/
def straightRows (C : ℕ → Book) (Z : Vec Ideal S9216x256 .f32) : Vec Ideal S9216x256 .f32 :=
  fun y => Z y - left C (rowIn Z (y 0)) 4 (y 1)

/-- The four digits of every row. -/
def digitRows (C : ℕ → Book) (Z : Vec Ideal S9216x256 .f32) : Vec Ideal S9216x4 .i32 :=
  fun y => BitVec.ofNat 32 (digit C (rowIn Z (y 0)) (y 1).val).val

/-- The composed index of every row. -/
def composedRows (C : ℕ → Book) (Z : Vec Ideal S9216x256 .f32) : Vec Ideal S9216x1 .i32 := fun y => compose C (rowIn Z (y 0))

variable (m : (ℓ : Loc nD τ sig) → Buf (Elt Ideal) ℓ) (c : Dev nD)

/-- At point `t` the window on the latents is at block `t`. -/
theorem idx0 : ∀ t : Fin cfg0.N, win0_0.index t (0 : Fin 2) = t.val ∧ win0_0.index t (1 : Fin 2) = 0 :=
  (by decide +kernel : ∀ t : Fin grid0.N, _)

/-- The window on the codebooks never moves. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

/-- At point `t` the window on the straight-through rows is at block `t`. -/
theorem idx2 : ∀ t : Fin cfg0.N, win0_2.index t (0 : Fin 2) = t.val ∧ win0_2.index t (1 : Fin 2) = 0 :=
  (by decide +kernel : ∀ t : Fin grid0.N, _)

/-- At point `t` the window on the digits is at block `t`. -/
theorem idx3 : ∀ t : Fin cfg0.N, win0_3.index t (0 : Fin 2) = t.val ∧ win0_3.index t (1 : Fin 2) = 0 :=
  (by decide +kernel : ∀ t : Fin grid0.N, _)

/-- At point `t` the window on the composed indices is at block `t`. -/
theorem idx4 : ∀ t : Fin cfg0.N, win0_4.index t (0 : Fin 2) = t.val ∧ win0_4.index t (1 : Fin 2) = 0 :=
  (by decide +kernel : ∀ t : Fin grid0.N, _)

/-- The codebooks' window is the whole array. -/
theorem emb1 (t : Fin cfg0.N) (j : S4x512x256.Idx) : ((cfg0.win 1).blk t).view.emb j = j := by
  obtain ⟨e0, e1, e2⟩ := idx1 t
  funext a; apply Fin.ext
  match a with
  | ⟨0, _⟩ => show win0_1.index t (0 : Fin 3) * 4 + 1 * (j 0).val = (j 0).val; omega
  | ⟨1, _⟩ => show win0_1.index t (1 : Fin 3) * 512 + 1 * (j 1).val = (j 1).val; omega
  | ⟨2, _⟩ => show win0_1.index t (2 : Fin 3) * 256 + 1 * (j 2).val = (j 2).val; omega

/-- The grid has six points. -/
theorem lt_six (t : Fin cfg0.N) : t.val < 6 := lt_of_lt_of_eq t.isLt (show cfg0.N = 6 from N_0)

/-- Where an entry of the latents' window lies in the array. -/
theorem emb0 (t : Fin cfg0.N) (j : S1536x256.Idx) :
    ((cfg0.win 0).blk t).view.emb j = ix2 (Fin.ofNat 9216 (t.val * 1536 + (j 0).val)) (j 1) := by
  obtain ⟨e0, e1⟩ := idx0 t
  have ht := lt_six t
  have hj : (j 0).val < 1536 := (j 0).isLt
  funext a; apply Fin.ext
  match a with
  | ⟨0, _⟩ =>
    show win0_0.index t (0 : Fin 2) * 1536 + 1 * (j 0).val = (t.val * 1536 + (j 0).val) % 9216
    rw [e0, Nat.mod_eq_of_lt (by omega)]; omega
  | ⟨1, _⟩ => show win0_0.index t (1 : Fin 2) * 256 + 1 * (j 1).val = (j 1).val; omega

/-- Where an entry of the straight-through window lies in the array. -/
theorem emb2 (t : Fin cfg0.N) (j : S1536x256.Idx) :
    ((cfg0.win 2).blk t).view.emb j = ix2 (Fin.ofNat 9216 (t.val * 1536 + (j 0).val)) (j 1) := by
  obtain ⟨e0, e1⟩ := idx2 t
  have ht := lt_six t
  have hj : (j 0).val < 1536 := (j 0).isLt
  funext a; apply Fin.ext
  match a with
  | ⟨0, _⟩ =>
    show win0_2.index t (0 : Fin 2) * 1536 + 1 * (j 0).val = (t.val * 1536 + (j 0).val) % 9216
    rw [e0, Nat.mod_eq_of_lt (by omega)]; omega
  | ⟨1, _⟩ => show win0_2.index t (1 : Fin 2) * 256 + 1 * (j 1).val = (j 1).val; omega

/-- Where an entry of the digits' window lies in the array. -/
theorem emb3 (t : Fin cfg0.N) (j : S1536x4.Idx) :
    ((cfg0.win 3).blk t).view.emb j = ix2 (Fin.ofNat 9216 (t.val * 1536 + (j 0).val)) (j 1) := by
  obtain ⟨e0, e1⟩ := idx3 t
  have ht := lt_six t
  have hj : (j 0).val < 1536 := (j 0).isLt
  funext a; apply Fin.ext
  match a with
  | ⟨0, _⟩ =>
    show win0_3.index t (0 : Fin 2) * 1536 + 1 * (j 0).val = (t.val * 1536 + (j 0).val) % 9216
    rw [e0, Nat.mod_eq_of_lt (by omega)]; omega
  | ⟨1, _⟩ => show win0_3.index t (1 : Fin 2) * 4 + 1 * (j 1).val = (j 1).val; omega

/-- Where an entry of the indices' window lies in the array. -/
theorem emb4 (t : Fin cfg0.N) (j : S1536x1.Idx) :
    ((cfg0.win 4).blk t).view.emb j = ix2 (Fin.ofNat 9216 (t.val * 1536 + (j 0).val)) (j 1) := by
  obtain ⟨e0, e1⟩ := idx4 t
  have ht := lt_six t
  have hj : (j 0).val < 1536 := (j 0).isLt
  funext a; apply Fin.ext
  match a with
  | ⟨0, _⟩ =>
    show win0_4.index t (0 : Fin 2) * 1536 + 1 * (j 0).val = (t.val * 1536 + (j 0).val) % 9216
    rw [e0, Nat.mod_eq_of_lt (by omega)]; omega
  | ⟨1, _⟩ => show win0_4.index t (1 : Fin 2) * 1 + 1 * (j 1).val = (j 1).val; omega

/-- The blocks the body reads: the whole of the codebooks, and the point's rows. -/
theorem iblk1_eq (t : Fin cfg0.N) : iblk m c 1 t = V m c main_arg1 := by
  funext j; show V m c main_arg1 (((cfg0.win 1).blk t).view.emb j) = V m c main_arg1 j; rw [emb1]

/-- What point `t` loads of the latents is block `t` of the rows. -/
theorem iblk0_eq (t : Fin cfg0.N) : iblk m c 0 t = blockAt (V m c main_v0) t.val := by
  funext j; show V m c main_v0 (((cfg0.win 0).blk t).view.emb j) = _; rw [emb0]; rfl

/-- Point 5 is a point of the grid. -/
theorem last_lt : 5 < cfg0.N := by rw [show cfg0.N = 6 from N_0]; omega

variable (hB : ∀ s, s < 4 → Finite (books (V m c main_arg1) s))
include hB

/-- What each point leaves. -/
theorem point_at : ∀ (t : ℕ) (ht : t < cfg0.N), Point (V m c main_arg1) (blockAt (V m c main_v0) t)
    (votesTo (books (V m c main_arg1)) (V m c main_v0) t) (errorTo (books (V m c main_arg1)) (V m c main_v0) t) (outsAt0 m c t ht)
  | 0, ht => by
    have h := point_A m c ⟨0, ht⟩ (by simp) (by simp) (by rw [iblk1_eq]; exact hB)
    rw [iblk1_eq, iblk0_eq] at h
    exact h
  | t + 1, ht => by
    have h6 := lt_six ⟨t + 1, ht⟩
    have ih := point_at t (Nat.lt_of_succ_lt ht)
    have hv : votesTo (books (V m c main_arg1)) (V m c main_v0) (t + 1) = fun k =>
        votesTo (books (V m c main_arg1)) (V m c main_v0) t k + blockVotes (books (V m c main_arg1)) (blockAt (V m c main_v0) t) k :=
      funext fun k => Finset.sum_range_succ _ _
    have he : errorTo (books (V m c main_arg1)) (V m c main_v0) (t + 1) =
        errorTo (books (V m c main_arg1)) (V m c main_v0) t + blockError (books (V m c main_arg1)) (blockAt (V m c main_v0) t) :=
      Finset.sum_range_succ _ _
    rw [hv, he, ← iblk0_eq m c ⟨t + 1, ht⟩]
    by_cases h1 : (t + 1) % 6 = 5
    · exact point_C m c ⟨t + 1, ht⟩ _ _ _ _ (by simp only at h6 ⊢; omega) h1 hB ih
    · exact point_B m c ⟨t + 1, ht⟩ _ _ _ _ (by simp only at h6 ⊢; omega) h1 hB ih

/-- The three arrays that hold them. -/
theorem array2 : (dats m 0 c).arrAt 2 cfg0.N = straightRows (books (V m c main_arg1)) (V m c main_v0) := by
  refine (dats m 0 c).arrAt_eq_of_covers 2 _ (by decide +kernel) fun t hf y => ?_
  rw [after0_2, emb2]
  obtain ⟨r, d, rfl⟩ : ∃ r d, y = ix2 r d := ⟨y 0, y 1, by funext a; fin_cases a <;> rfl⟩
  exact (point_at m c hB t.val t.isLt).q r d

/-- The digits' array after the last point. -/
theorem array3 : (dats m 0 c).arrAt 3 cfg0.N = digitRows (books (V m c main_arg1)) (V m c main_v0) := by
  refine (dats m 0 c).arrAt_eq_of_covers 3 _ (by decide +kernel) fun t hf y => ?_
  rw [after0_3, emb3]
  obtain ⟨r, d, rfl⟩ : ∃ r d, y = ix2 r d := ⟨y 0, y 1, by funext a; fin_cases a <;> rfl⟩
  exact (point_at m c hB t.val t.isLt).dig r d

/-- The composed indices' array after the last point. -/
theorem array4 : (dats m 0 c).arrAt 4 cfg0.N = composedRows (books (V m c main_arg1)) (V m c main_v0) := by
  refine (dats m 0 c).arrAt_eq_of_covers 4 _ (by decide +kernel) fun t hf y => ?_
  rw [after0_4, emb4]
  obtain ⟨r, rfl⟩ : ∃ r, y = ix2 r 0 := ⟨y 0, by
    funext a
    match a with
    | ⟨0, _⟩ => rfl
    | ⟨1, _⟩ => exact Fin.ext (Nat.lt_one_iff.mp (y 1).isLt)⟩
  exact (point_at m c hB t.val t.isLt).idx r

/-- The sums of all the blocks as rows of one entry, and the two numbers made of them at the last point. -/
def allVotes (C : ℕ → Book) (Z : Vec Ideal S9216x256 .f32) : Vec Ideal S1x512 .f32 := fun y => votesTo C Z 6 (y 1)

/-- The squared error of all the rows, as a one-entry array. -/
def allError (C : ℕ → Book) (Z : Vec Ideal S9216x256 .f32) : Vec Ideal S1x1 .f32 := fun _ => errorTo C Z 6

/-- The vote window after the last point holds the votes of all the rows. -/
theorem last_votes : (outsAt0 m c 5 last_lt).2.2.2.1 = allVotes (books (V m c main_arg1)) (V m c main_v0) := by
  funext y
  obtain ⟨k, rfl⟩ : ∃ k, y = ix2 0 k := ⟨y 1, by
    funext a
    match a with
    | ⟨0, _⟩ => exact Fin.ext (Nat.lt_one_iff.mp (y 0).isLt)
    | ⟨1, _⟩ => rfl⟩
  exact ((point_at m c hB 5 last_lt).cnt k).trans (Finset.sum_range_succ _ _).symm

/-- The error window after the last point holds the squared error of all the rows. -/
theorem last_error : (outsAt0 m c 5 last_lt).2.2.2.2.1 = allError (books (V m c main_arg1)) (V m c main_v0) := by
  funext y
  obtain rfl : y = ix2 0 0 := by
    funext a
    match a with
    | ⟨0, _⟩ => exact Fin.ext (Nat.lt_one_iff.mp (y 0).isLt)
    | ⟨1, _⟩ => exact Fin.ext (Nat.lt_one_iff.mp (y 1).isLt)
  exact ((point_at m c hB 5 last_lt).err).trans (Finset.sum_range_succ _ _).symm

/-- The loss that the last point leaves. -/
theorem array7 : (dats m 0 c).arrAt 7 cfg0.N = k0_pay2 (allError (books (V m c main_arg1)) (V m c main_v0)) := by
  refine (dats m 0 c).arrAt_eq_of_after_last 7 ⟨5, last_lt⟩ (by decide +kernel) _ fun j => ?_
  rw [after0_7]
  have h := (closing_C m c ⟨5, last_lt⟩ (by simp) (by simp)).1
  rw [last_error m c hB] at h
  exact congrFun h j

/-- The perplexity that the last point leaves. -/
theorem array8 : (dats m 0 c).arrAt 8 cfg0.N = k0_pay1 (allVotes (books (V m c main_arg1)) (V m c main_v0)) := by
  refine (dats m 0 c).arrAt_eq_of_after_last 8 ⟨5, last_lt⟩ (by decide +kernel) _ fun j => ?_
  rw [after0_8]
  have h := (closing_C m c ⟨5, last_lt⟩ (by simp) (by simp)).2
  rw [last_votes m c hB] at h
  exact congrFun h j

end Cert.Proof.KernelStage

end
-- ==== Proof.KernelRun.lean ====
/-
  The kernel's run: its six results in terms of the rows of the latents and the codebooks.
-/
module

public import proofs.«01_k».proof.Proof.KernelArray
public import Idealize.ShloMosaic.Lib.StableHlo.RunRead

@[expose] public section

set_option maxRecDepth 16384

noncomputable section

namespace Cert.Proof.KernelStage

open Cert.KernelIdeal Cert.KernelIdeal.Gen Cert.Proof.Nearest
open Idealize.ShloMosaic Idealize.ShloMosaic.TcCoe Idealize.ShloMosaic.Pipeline Idealize.SL.Sem

variable (m : (ℓ : Loc nD τ sig) → Buf (Elt Ideal) ℓ) (ρ : Dev nD → PrngReg) (c : Dev nD)

/-- The contents the lines after the grid start from. -/
abbrev W₀ : Valuation τ sig (Elt Ideal) := withArrays spec0 c (V0 m c) fun w => (dats m 0 c).arrAt w cfg0.N

/-- The rows the grid reads are the rows of the latents. -/
theorem V_main_v0 : V m c main_v0 = shapeCast S9216x256 (m ((c : Thread nD τ).loc main_arg0)) shapeCasts_S16x576x256_S9216x256 := by
  show StableHlo.after (List.flatten [hostOps0]) (fun b => m (c, b)) (main_v0 : DevRef τ sig) = _
  after_reads_simp
  rfl

/-- Different windows are on different arrays. -/
theorem arr_injective : Function.Injective (arrRef spec0) := by decide

/-- After the call an array holds what the grid left in it. -/
theorem W_at (w : Fin cfg0.W) : W₀ m c (Proc.devRef .tc (arrRef spec0 w)) = (dats m 0 c).arrAt w cfg0.N :=
  withArrays_arr spec0 arr_injective c _ _ w

/-- The array of straight-through rows after the call. -/
theorem W_v1_0 : W₀ m c (main_v1_0 : DevRef τ sig) = (dats m 0 c).arrAt 2 cfg0.N := W_at m c 2

/-- The array of digits after the call. -/
theorem W_v1_1 : W₀ m c (main_v1_1 : DevRef τ sig) = (dats m 0 c).arrAt 3 cfg0.N := W_at m c 3

/-- The array of composed indices after the call. -/
theorem W_v1_2 : W₀ m c (main_v1_2 : DevRef τ sig) = (dats m 0 c).arrAt 4 cfg0.N := W_at m c 4

/-- The loss after the call. -/
theorem W_v1_5 : W₀ m c (main_v1_5 : DevRef τ sig) = (dats m 0 c).arrAt 7 cfg0.N := W_at m c 7

/-- The perplexity after the call. -/
theorem W_v1_6 : W₀ m c (main_v1_6 : DevRef τ sig) = (dats m 0 c).arrAt 8 cfg0.N := W_at m c 8

variable (W : Valuation τ sig (Elt Ideal))

/-- The first result is the straight-through rows in the latents' shape. -/
theorem tail_v2 : StableHlo.after (List.flatten [hostOps1]) W (main_v2 : DevRef τ sig)
    = shapeCast S16x576x256 (W (main_v1_0 : DevRef τ sig)) shapeCasts_S9216x256_S16x576x256 := by
  after_reads_simp
  rfl

/-- The second result is the composed indices, reshaped. -/
theorem tail_v3 : StableHlo.after (List.flatten [hostOps1]) W (main_v3 : DevRef τ sig)
    = shapeCast S16x576 (W (main_v1_2 : DevRef τ sig)) shapeCasts_S9216x1_S16x576 := by
  after_reads_simp
  rfl

/-- The third result is the digits, transposed and reshaped. -/
theorem tail_v5 : StableHlo.after (List.flatten [hostOps1]) W (main_v5 : DevRef τ sig)
    = shapeCast S4x16x576 (transpose S4x9216 [1, 0] (W (main_v1_1 : DevRef τ sig)) transposes_S9216x4_S4x9216_1_0) shapeCasts_S4x9216_S4x16x576 := by
  after_reads_simp
  rfl

/-- The fourth result is false everywhere. -/
theorem tail_v6 : StableHlo.after (List.flatten [hostOps1]) W (main_v6 : DevRef τ sig)
    = broadcastInDim S16x576 ![] bcast_S_S16x576 (constantI S_ 1 0#1) := by
  after_reads_simp

/-- The fifth result is the loss as a scalar. -/
theorem tail_v7 : StableHlo.after (List.flatten [hostOps1]) W (main_v7 : DevRef τ sig)
    = shapeCast S_ (W (main_v1_5 : DevRef τ sig)) shapeCasts_S1x1_S_ := by
  after_reads_simp
  rfl

/-- The sixth result is the perplexity as a scalar. -/
theorem tail_v8 : StableHlo.after (List.flatten [hostOps1]) W (main_v8 : DevRef τ sig)
    = shapeCast S_ (W (main_v1_6 : DevRef τ sig)) shapeCasts_S1x1_S_ := by
  after_reads_simp
  rfl

/-- The rows of the latents of core `c`, and the codebooks. -/
abbrev latents : Vec Ideal S9216x256 .f32 := shapeCast S9216x256 (m ((c : Thread nD τ).loc main_arg0)) shapeCasts_S16x576x256_S9216x256

/-- The four codebooks of the arguments. -/
abbrev shelf : ℕ → Book := books (m ((c : Thread nD τ).loc main_arg1))

/-- The six results, where the codebooks are finite. -/
theorem run (hB : ∀ c s, s < 4 → Finite (shelf m c s)) :
    θ_run defs (onTc (τ := τ) (main (F := Ideal))) ⟨m, fun _ => 0, ρ⟩ fun r => ∀ c : Dev nD,
      r.2.mem ((c.tc : Thread nD τ).loc main_v2) = shapeCast S16x576x256 (straightRows (shelf m c) (latents m c)) shapeCasts_S9216x256_S16x576x256
      ∧ r.2.mem ((c.tc : Thread nD τ).loc main_v3) = shapeCast S16x576 (composedRows (shelf m c) (latents m c)) shapeCasts_S9216x1_S16x576
      ∧ r.2.mem ((c.tc : Thread nD τ).loc main_v5)
        = shapeCast S4x16x576 (transpose S4x9216 [1, 0] (digitRows (shelf m c) (latents m c)) transposes_S9216x4_S4x9216_1_0) shapeCasts_S4x9216_S4x16x576
      ∧ r.2.mem ((c.tc : Thread nD τ).loc main_v6) = broadcastInDim S16x576 ![] bcast_S_S16x576 (constantI S_ 1 0#1)
      ∧ r.2.mem ((c.tc : Thread nD τ).loc main_v7) = shapeCast S_ (k0_pay2 (allError (shelf m c) (latents m c))) shapeCasts_S1x1_S_
      ∧ r.2.mem ((c.tc : Thread nD τ).loc main_v8) = shapeCast S_ (k0_pay1 (allVotes (shelf m c) (latents m c))) shapeCasts_S1x1_S_ := by
  refine (θ_run defs _ _).mono (fun r h c => ?_) (run_main m ρ)
  have hV : ∀ s, s < 4 → Finite (books (V m c main_arg1) s) := by rw [V_main_arg1]; exact hB c
  have e1 := V_main_arg1 m c
  have e0 := V_main_v0 m c
  have rest : ∀ (b : Ref sig .tc), b ∈ restRefs sig spec0 → r.2.mem ((c.tc : Thread nD τ).loc b)
      = StableHlo.after (List.flatten [hostOps1]) (W₀ m c) (Proc.devRef .tc b) := fun b hb => (h c).2 b hb
  refine ⟨(rest main_v2 (mem_restRefs_of main_v2 (by decide) (by decide))).trans ?_,
    (rest main_v3 (mem_restRefs_of main_v3 (by decide) (by decide))).trans ?_,
    (rest main_v5 (mem_restRefs_of main_v5 (by decide) (by decide))).trans ?_,
    (rest main_v6 (mem_restRefs_of main_v6 (by decide) (by decide))).trans ?_,
    (rest main_v7 (mem_restRefs_of main_v7 (by decide) (by decide))).trans ?_,
    (rest main_v8 (mem_restRefs_of main_v8 (by decide) (by decide))).trans ?_⟩
  · rw [tail_v2, W_v1_0, array2 m c hV, e1, e0]
  · rw [tail_v3, W_v1_2, array4 m c hV, e1, e0]
  · rw [tail_v5, W_v1_1, array3 m c hV, e1, e0]
  · exact tail_v6 _
  · rw [tail_v7, W_v1_5, array7 m c hV, e1, e0]
  · rw [tail_v8, W_v1_6, array8 m c hV, e1, e0]

end Cert.Proof.KernelStage

end
-- ==== Proof.RefOps.lean ====
/-
  The reference program as a list of its array operations. `main` is the straight line of six stretches: the set-up, the four
  quantisers, and the results read off them. Each stretch comes with the list of the buffers it writes, so that any
  other buffer is known to pass through it unchanged, and the whole line with the run it makes from any memory.
-/
module

public import Idealize.ShloMosaic.Lib.StableHlo.Run
public import Idealize.ShloMosaic.Lib.StableHlo.RunRead
public import Idealize.ShloMosaic.Lib.Pipeline.Frame
public import proofs.«01_k».proof.Proof.Gen.ReferenceIdeal

@[expose] public section

noncomputable section

namespace Cert.Proof.RefOps

open Cert.ReferenceIdeal Cert.ReferenceIdeal.Gen
open Idealize.ShloMosaic Idealize.ShloMosaic.TcCoe Idealize.ShloMosaic.StableHlo Idealize.SL.Sem

variable {F : FTy → Type} [FloatOps F]

/-- The rows of the latents, and the two zero arrays the running sum and the running usage start from. -/
abbrev pre : List (HloOp τ sig (Elt F)) :=
  [ reshape main_arg0 main_v0 (rfl : (.f32 : EltTy) = .f32) shapeCasts_S16x576x256_S9216x256,
    nullary main_cst (constant S_ .f32 0x00000000#32),
    unary main_cst main_v1 (broadcastInDim S9216x256 ![] bcast_S_S9216x256),
    nullary main_cst_0 (constant S_ .f32 0x00000000#32),
    unary main_cst_0 main_v2 (broadcastInDim S512 ![] bcast_S_S512) ]

/-- The buffers pre writes. -/
abbrev preW : List (Ref sig .tc) :=
  [main_v0, main_cst, main_v1, main_cst_0, main_v2]

/-- Quantiser 0: distances, nearest code, looked-up row, running sum, residual, usage. -/
abbrev stage0 : List (HloOp τ sig (Elt F)) :=
  [ unary main_arg1 main_v3 (extractStridedSlice S1x512x256 ![0, 0, 0] · slices_S4x512x256_S1x512x256_0_0_0),
    reshape main_v3 main_v4 (rfl : (.f32 : EltTy) = .f32) shapeCasts_S1x512x256_S512x256,
    binary main_v0 main_v0 main_v5 mulf,
    nullary main_cst_1 (constant S_ .f32 0x00000000#32),
    binary main_v5 main_cst_1 main_v6 (fun x v => Host.reduceAdd x v reducesTo_S9216x256_S9216_d1 h_S_),
    unary main_v6 main_v7 (broadcastInDim S9216x1 ![0] bcast_S9216_S9216x1_0),
    nullary main_cst_2 (constant S_ .f32 0x40000000#32),
    unary main_cst_2 main_v8 (broadcastInDim S9216x256 ![] bcast_S_S9216x256),
    binary main_v8 main_v0 main_v9 mulf,
    unary main_v4 main_v10 (transpose S256x512 [1, 0] · transposes_S512x256_S256x512_1_0),
    binary main_v9 main_v10 main_v11 (fun l r => Host.dotGeneral dot_S9216x256_S256x512_S9216x512_1_0_0_1_n_n none l r),
    unary main_v7 main_v12 (broadcastInDim S9216x512 ![0, 1] bcast_S9216x1_S9216x512_0_1),
    binary main_v12 main_v11 main_v13 subf,
    binary main_v4 main_v4 main_v14 mulf,
    nullary main_cst_3 (constant S_ .f32 0x00000000#32),
    binary main_v14 main_cst_3 main_v15 (fun x v => Host.reduceAdd x v reducesTo_S512x256_S512_d1 h_S_),
    unary main_v15 main_v16 (broadcastInDim S1x512 ![1] bcast_S512_S1x512_1),
    unary main_v16 main_v17 (broadcastInDim S9216x512 ![0, 1] bcast_S1x512_S9216x512_0_1),
    binary main_v13 main_v17 main_v18 addf,
    nullary main_call0_v0 (iotaInDim S9216x512 32 1),
    nullary main_call0_cst (constant S_ .f32 0x7F800000#32),
    nullary main_call0_c (constantI S_ 32 0#32),
    quaternary main_v18 main_call0_v0 main_call0_cst main_call0_c main_call0_v1_0 (fun x y u v j => (Host.argReduce reducer_argmin_f32_i32 x y u v reducesTo_S9216x512_S9216_d1 h_S_ j).1),
    quaternary main_v18 main_call0_v0 main_call0_cst main_call0_c main_v19 (fun x y u v j => (Host.argReduce reducer_argmin_f32_i32 x y u v reducesTo_S9216x512_S9216_d1 h_S_ j).2),
    nullary main_call1_c (constantI S_ 32 0#32),
    unary main_call1_c main_call1_v0 (broadcastInDim S9216 ![] bcast_S_S9216),
    binary main_v19 main_call1_v0 main_call1_v1 (cmpi .slt),
    nullary main_call1_c_0 (constantI S_ 32 512#32),
    unary main_call1_c_0 main_call1_v2 (broadcastInDim S9216 ![] bcast_S_S9216),
    binary main_v19 main_call1_v2 main_call1_v3 addi,
    ternary main_call1_v1 main_call1_v3 main_v19 main_call1_v4 select,
    unary main_call1_v4 main_call1_v5 (broadcastInDim S9216x1 ![0] bcast_S9216_S9216x1_0),
    nullary main_call1_c_1 (constantI S1 32 511#32),
    nullary main_call1_c_2 (constantI S_ 32 0#32),
    unary main_call1_c_2 main_call1_v6 (broadcastInDim S9216x1 ![] bcast_S_S9216x1),
    binary main_call1_v5 main_call1_v6 main_call1_v7 (cmpi .sge),
    unary main_call1_c_1 main_call1_v8 (broadcastInDim S1x1 ![1] bcast_S1_S1x1_1),
    unary main_call1_v8 main_call1_v9 (broadcastInDim S9216x1 ![0, 1] bcast_S1x1_S9216x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S9216x1_S9216_d1 h_S_),
    binary main_v4 main_call1_v5 main_call1_v13 (fun x i => Host.gather gather_S512x256_S9216x1_S9216x256_1_0_n_n_0_1_1256 x i),
    unary main_call1_v12 main_call1_v14 (broadcastInDim S9216x256 ![0] bcast_S9216_S9216x256_0),
    nullary main_call1_cst (constant S_ .f32 0x7FC00000#32),
    unary main_call1_cst main_call1_v15 (broadcastInDim S9216x256 ![] bcast_S_S9216x256),
    ternary main_call1_v14 main_call1_v13 main_call1_v15 main_v20 select,
    binary main_v1 main_v20 main_v21 addf,
    binary main_v0 main_v20 main_v22 subf,
    unary main_v19 main_call2_v0 (broadcastInDim S9216x1 ![0] bcast_S9216_S9216x1_0),
    nullary main_call2_v1 (iotaInDim S1x512 32 1),
    unary main_call2_v0 main_call2_v2 (broadcastInDim S9216x512 ![0, 1] bcast_S9216x1_S9216x512_0_1),
    unary main_call2_v1 main_call2_v3 (broadcastInDim S9216x512 ![0, 1] bcast_S1x512_S9216x512_0_1),
    binary main_call2_v2 main_call2_v3 main_call2_v4 (cmpi .eq),
    unary main_call2_v4 main_v23 (uitofp .f32),
    nullary main_cst_4 (constant S_ .f32 0x00000000#32),
    binary main_v23 main_cst_4 main_v24 (fun x v => Host.reduceAdd x v reducesTo_S9216x512_S512_d0 h_S_),
    nullary main_cst_5 (constant S_ .f32 0x46100000#32),
    unary main_cst_5 main_v25 (broadcastInDim S512 ![] bcast_S_S512),
    binary main_v24 main_v25 main_v26 Host.divf,
    binary main_v2 main_v26 main_v27 addf ]

/-- The buffers stage0 writes. -/
abbrev stage0W : List (Ref sig .tc) :=
  [main_v3, main_v4, main_v5, main_cst_1, main_v6, main_v7, main_cst_2, main_v8, main_v9, main_v10, main_v11, main_v12, main_v13, main_v14, main_cst_3, main_v15, main_v16, main_v17, main_v18, main_call0_v0, main_call0_cst, main_call0_c, main_call0_v1_0, main_v19, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v20, main_v21, main_v22, main_call2_v0, main_call2_v1, main_call2_v2, main_call2_v3, main_call2_v4, main_v23, main_cst_4, main_v24, main_cst_5, main_v25, main_v26, main_v27]

/-- Quantiser 1: distances, nearest code, looked-up row, running sum, residual, usage. -/
abbrev stage1 : List (HloOp τ sig (Elt F)) :=
  [ unary main_arg1 main_v28 (extractStridedSlice S1x512x256 ![1, 0, 0] · slices_S4x512x256_S1x512x256_1_0_0),
    reshape main_v28 main_v29 (rfl : (.f32 : EltTy) = .f32) shapeCasts_S1x512x256_S512x256,
    binary main_v22 main_v22 main_v30 mulf,
    nullary main_cst_6 (constant S_ .f32 0x00000000#32),
    binary main_v30 main_cst_6 main_v31 (fun x v => Host.reduceAdd x v reducesTo_S9216x256_S9216_d1 h_S_),
    unary main_v31 main_v32 (broadcastInDim S9216x1 ![0] bcast_S9216_S9216x1_0),
    nullary main_cst_7 (constant S_ .f32 0x40000000#32),
    unary main_cst_7 main_v33 (broadcastInDim S9216x256 ![] bcast_S_S9216x256),
    binary main_v33 main_v22 main_v34 mulf,
    unary main_v29 main_v35 (transpose S256x512 [1, 0] · transposes_S512x256_S256x512_1_0),
    binary main_v34 main_v35 main_v36 (fun l r => Host.dotGeneral dot_S9216x256_S256x512_S9216x512_1_0_0_1_n_n none l r),
    unary main_v32 main_v37 (broadcastInDim S9216x512 ![0, 1] bcast_S9216x1_S9216x512_0_1),
    binary main_v37 main_v36 main_v38 subf,
    binary main_v29 main_v29 main_v39 mulf,
    nullary main_cst_8 (constant S_ .f32 0x00000000#32),
    binary main_v39 main_cst_8 main_v40 (fun x v => Host.reduceAdd x v reducesTo_S512x256_S512_d1 h_S_),
    unary main_v40 main_v41 (broadcastInDim S1x512 ![1] bcast_S512_S1x512_1),
    unary main_v41 main_v42 (broadcastInDim S9216x512 ![0, 1] bcast_S1x512_S9216x512_0_1),
    binary main_v38 main_v42 main_v43 addf,
    nullary main_call3_v0 (iotaInDim S9216x512 32 1),
    nullary main_call3_cst (constant S_ .f32 0x7F800000#32),
    nullary main_call3_c (constantI S_ 32 0#32),
    quaternary main_v43 main_call3_v0 main_call3_cst main_call3_c main_call3_v1_0 (fun x y u v j => (Host.argReduce reducer_argmin_f32_i32 x y u v reducesTo_S9216x512_S9216_d1 h_S_ j).1),
    quaternary main_v43 main_call3_v0 main_call3_cst main_call3_c main_v44 (fun x y u v j => (Host.argReduce reducer_argmin_f32_i32 x y u v reducesTo_S9216x512_S9216_d1 h_S_ j).2),
    nullary main_call4_c (constantI S_ 32 0#32),
    unary main_call4_c main_call4_v0 (broadcastInDim S9216 ![] bcast_S_S9216),
    binary main_v44 main_call4_v0 main_call4_v1 (cmpi .slt),
    nullary main_call4_c_0 (constantI S_ 32 512#32),
    unary main_call4_c_0 main_call4_v2 (broadcastInDim S9216 ![] bcast_S_S9216),
    binary main_v44 main_call4_v2 main_call4_v3 addi,
    ternary main_call4_v1 main_call4_v3 main_v44 main_call4_v4 select,
    unary main_call4_v4 main_call4_v5 (broadcastInDim S9216x1 ![0] bcast_S9216_S9216x1_0),
    nullary main_call4_c_1 (constantI S1 32 511#32),
    nullary main_call4_c_2 (constantI S_ 32 0#32),
    unary main_call4_c_2 main_call4_v6 (broadcastInDim S9216x1 ![] bcast_S_S9216x1),
    binary main_call4_v5 main_call4_v6 main_call4_v7 (cmpi .sge),
    unary main_call4_c_1 main_call4_v8 (broadcastInDim S1x1 ![1] bcast_S1_S1x1_1),
    unary main_call4_v8 main_call4_v9 (broadcastInDim S9216x1 ![0, 1] bcast_S1x1_S9216x1_0_1),
    binary main_call4_v5 main_call4_v9 main_call4_v10 (cmpi .sle),
    binary main_call4_v7 main_call4_v10 main_call4_v11 andi,
    nullary main_call4_c_3 (constantI S_ 1 1#1),
    binary main_call4_v11 main_call4_c_3 main_call4_v12 (fun x v => Host.reduce IntOp.andi x v reducesTo_S9216x1_S9216_d1 h_S_),
    binary main_v29 main_call4_v5 main_call4_v13 (fun x i => Host.gather gather_S512x256_S9216x1_S9216x256_1_0_n_n_0_1_1256 x i),
    unary main_call4_v12 main_call4_v14 (broadcastInDim S9216x256 ![0] bcast_S9216_S9216x256_0),
    nullary main_call4_cst (constant S_ .f32 0x7FC00000#32),
    unary main_call4_cst main_call4_v15 (broadcastInDim S9216x256 ![] bcast_S_S9216x256),
    ternary main_call4_v14 main_call4_v13 main_call4_v15 main_v45 select,
    binary main_v21 main_v45 main_v46 addf,
    binary main_v22 main_v45 main_v47 subf,
    unary main_v44 main_call5_v0 (broadcastInDim S9216x1 ![0] bcast_S9216_S9216x1_0),
    nullary main_call5_v1 (iotaInDim S1x512 32 1),
    unary main_call5_v0 main_call5_v2 (broadcastInDim S9216x512 ![0, 1] bcast_S9216x1_S9216x512_0_1),
    unary main_call5_v1 main_call5_v3 (broadcastInDim S9216x512 ![0, 1] bcast_S1x512_S9216x512_0_1),
    binary main_call5_v2 main_call5_v3 main_call5_v4 (cmpi .eq),
    unary main_call5_v4 main_v48 (uitofp .f32),
    nullary main_cst_9 (constant S_ .f32 0x00000000#32),
    binary main_v48 main_cst_9 main_v49 (fun x v => Host.reduceAdd x v reducesTo_S9216x512_S512_d0 h_S_),
    nullary main_cst_10 (constant S_ .f32 0x46100000#32),
    unary main_cst_10 main_v50 (broadcastInDim S512 ![] bcast_S_S512),
    binary main_v49 main_v50 main_v51 Host.divf,
    binary main_v27 main_v51 main_v52 addf ]

/-- The buffers stage1 writes. -/
abbrev stage1W : List (Ref sig .tc) :=
  [main_v28, main_v29, main_v30, main_cst_6, main_v31, main_v32, main_cst_7, main_v33, main_v34, main_v35, main_v36, main_v37, main_v38, main_v39, main_cst_8, main_v40, main_v41, main_v42, main_v43, main_call3_v0, main_call3_cst, main_call3_c, main_call3_v1_0, main_v44, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v45, main_v46, main_v47, main_call5_v0, main_call5_v1, main_call5_v2, main_call5_v3, main_call5_v4, main_v48, main_cst_9, main_v49, main_cst_10, main_v50, main_v51, main_v52]

/-- Quantiser 2: distances, nearest code, looked-up row, running sum, residual, usage. -/
abbrev stage2 : List (HloOp τ sig (Elt F)) :=
  [ unary main_arg1 main_v53 (extractStridedSlice S1x512x256 ![2, 0, 0] · slices_S4x512x256_S1x512x256_2_0_0),
    reshape main_v53 main_v54 (rfl : (.f32 : EltTy) = .f32) shapeCasts_S1x512x256_S512x256,
    binary main_v47 main_v47 main_v55 mulf,
    nullary main_cst_11 (constant S_ .f32 0x00000000#32),
    binary main_v55 main_cst_11 main_v56 (fun x v => Host.reduceAdd x v reducesTo_S9216x256_S9216_d1 h_S_),
    unary main_v56 main_v57 (broadcastInDim S9216x1 ![0] bcast_S9216_S9216x1_0),
    nullary main_cst_12 (constant S_ .f32 0x40000000#32),
    unary main_cst_12 main_v58 (broadcastInDim S9216x256 ![] bcast_S_S9216x256),
    binary main_v58 main_v47 main_v59 mulf,
    unary main_v54 main_v60 (transpose S256x512 [1, 0] · transposes_S512x256_S256x512_1_0),
    binary main_v59 main_v60 main_v61 (fun l r => Host.dotGeneral dot_S9216x256_S256x512_S9216x512_1_0_0_1_n_n none l r),
    unary main_v57 main_v62 (broadcastInDim S9216x512 ![0, 1] bcast_S9216x1_S9216x512_0_1),
    binary main_v62 main_v61 main_v63 subf,
    binary main_v54 main_v54 main_v64 mulf,
    nullary main_cst_13 (constant S_ .f32 0x00000000#32),
    binary main_v64 main_cst_13 main_v65 (fun x v => Host.reduceAdd x v reducesTo_S512x256_S512_d1 h_S_),
    unary main_v65 main_v66 (broadcastInDim S1x512 ![1] bcast_S512_S1x512_1),
    unary main_v66 main_v67 (broadcastInDim S9216x512 ![0, 1] bcast_S1x512_S9216x512_0_1),
    binary main_v63 main_v67 main_v68 addf,
    nullary main_call6_v0 (iotaInDim S9216x512 32 1),
    nullary main_call6_cst (constant S_ .f32 0x7F800000#32),
    nullary main_call6_c (constantI S_ 32 0#32),
    quaternary main_v68 main_call6_v0 main_call6_cst main_call6_c main_call6_v1_0 (fun x y u v j => (Host.argReduce reducer_argmin_f32_i32 x y u v reducesTo_S9216x512_S9216_d1 h_S_ j).1),
    quaternary main_v68 main_call6_v0 main_call6_cst main_call6_c main_v69 (fun x y u v j => (Host.argReduce reducer_argmin_f32_i32 x y u v reducesTo_S9216x512_S9216_d1 h_S_ j).2),
    nullary main_call7_c (constantI S_ 32 0#32),
    unary main_call7_c main_call7_v0 (broadcastInDim S9216 ![] bcast_S_S9216),
    binary main_v69 main_call7_v0 main_call7_v1 (cmpi .slt),
    nullary main_call7_c_0 (constantI S_ 32 512#32),
    unary main_call7_c_0 main_call7_v2 (broadcastInDim S9216 ![] bcast_S_S9216),
    binary main_v69 main_call7_v2 main_call7_v3 addi,
    ternary main_call7_v1 main_call7_v3 main_v69 main_call7_v4 select,
    unary main_call7_v4 main_call7_v5 (broadcastInDim S9216x1 ![0] bcast_S9216_S9216x1_0),
    nullary main_call7_c_1 (constantI S1 32 511#32),
    nullary main_call7_c_2 (constantI S_ 32 0#32),
    unary main_call7_c_2 main_call7_v6 (broadcastInDim S9216x1 ![] bcast_S_S9216x1),
    binary main_call7_v5 main_call7_v6 main_call7_v7 (cmpi .sge),
    unary main_call7_c_1 main_call7_v8 (broadcastInDim S1x1 ![1] bcast_S1_S1x1_1),
    unary main_call7_v8 main_call7_v9 (broadcastInDim S9216x1 ![0, 1] bcast_S1x1_S9216x1_0_1),
    binary main_call7_v5 main_call7_v9 main_call7_v10 (cmpi .sle),
    binary main_call7_v7 main_call7_v10 main_call7_v11 andi,
    nullary main_call7_c_3 (constantI S_ 1 1#1),
    binary main_call7_v11 main_call7_c_3 main_call7_v12 (fun x v => Host.reduce IntOp.andi x v reducesTo_S9216x1_S9216_d1 h_S_),
    binary main_v54 main_call7_v5 main_call7_v13 (fun x i => Host.gather gather_S512x256_S9216x1_S9216x256_1_0_n_n_0_1_1256 x i),
    unary main_call7_v12 main_call7_v14 (broadcastInDim S9216x256 ![0] bcast_S9216_S9216x256_0),
    nullary main_call7_cst (constant S_ .f32 0x7FC00000#32),
    unary main_call7_cst main_call7_v15 (broadcastInDim S9216x256 ![] bcast_S_S9216x256),
    ternary main_call7_v14 main_call7_v13 main_call7_v15 main_v70 select,
    binary main_v46 main_v70 main_v71 addf,
    binary main_v47 main_v70 main_v72 subf,
    unary main_v69 main_call8_v0 (broadcastInDim S9216x1 ![0] bcast_S9216_S9216x1_0),
    nullary main_call8_v1 (iotaInDim S1x512 32 1),
    unary main_call8_v0 main_call8_v2 (broadcastInDim S9216x512 ![0, 1] bcast_S9216x1_S9216x512_0_1),
    unary main_call8_v1 main_call8_v3 (broadcastInDim S9216x512 ![0, 1] bcast_S1x512_S9216x512_0_1),
    binary main_call8_v2 main_call8_v3 main_call8_v4 (cmpi .eq),
    unary main_call8_v4 main_v73 (uitofp .f32),
    nullary main_cst_14 (constant S_ .f32 0x00000000#32),
    binary main_v73 main_cst_14 main_v74 (fun x v => Host.reduceAdd x v reducesTo_S9216x512_S512_d0 h_S_),
    nullary main_cst_15 (constant S_ .f32 0x46100000#32),
    unary main_cst_15 main_v75 (broadcastInDim S512 ![] bcast_S_S512),
    binary main_v74 main_v75 main_v76 Host.divf,
    binary main_v52 main_v76 main_v77 addf ]

/-- The buffers stage2 writes. -/
abbrev stage2W : List (Ref sig .tc) :=
  [main_v53, main_v54, main_v55, main_cst_11, main_v56, main_v57, main_cst_12, main_v58, main_v59, main_v60, main_v61, main_v62, main_v63, main_v64, main_cst_13, main_v65, main_v66, main_v67, main_v68, main_call6_v0, main_call6_cst, main_call6_c, main_call6_v1_0, main_v69, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v70, main_v71, main_v72, main_call8_v0, main_call8_v1, main_call8_v2, main_call8_v3, main_call8_v4, main_v73, main_cst_14, main_v74, main_cst_15, main_v75, main_v76, main_v77]

/-- Quantiser 3: distances, nearest code, looked-up row, running sum, residual, usage. -/
abbrev stage3 : List (HloOp τ sig (Elt F)) :=
  [ unary main_arg1 main_v78 (extractStridedSlice S1x512x256 ![3, 0, 0] · slices_S4x512x256_S1x512x256_3_0_0),
    reshape main_v78 main_v79 (rfl : (.f32 : EltTy) = .f32) shapeCasts_S1x512x256_S512x256,
    binary main_v72 main_v72 main_v80 mulf,
    nullary main_cst_16 (constant S_ .f32 0x00000000#32),
    binary main_v80 main_cst_16 main_v81 (fun x v => Host.reduceAdd x v reducesTo_S9216x256_S9216_d1 h_S_),
    unary main_v81 main_v82 (broadcastInDim S9216x1 ![0] bcast_S9216_S9216x1_0),
    nullary main_cst_17 (constant S_ .f32 0x40000000#32),
    unary main_cst_17 main_v83 (broadcastInDim S9216x256 ![] bcast_S_S9216x256),
    binary main_v83 main_v72 main_v84 mulf,
    unary main_v79 main_v85 (transpose S256x512 [1, 0] · transposes_S512x256_S256x512_1_0),
    binary main_v84 main_v85 main_v86 (fun l r => Host.dotGeneral dot_S9216x256_S256x512_S9216x512_1_0_0_1_n_n none l r),
    unary main_v82 main_v87 (broadcastInDim S9216x512 ![0, 1] bcast_S9216x1_S9216x512_0_1),
    binary main_v87 main_v86 main_v88 subf,
    binary main_v79 main_v79 main_v89 mulf,
    nullary main_cst_18 (constant S_ .f32 0x00000000#32),
    binary main_v89 main_cst_18 main_v90 (fun x v => Host.reduceAdd x v reducesTo_S512x256_S512_d1 h_S_),
    unary main_v90 main_v91 (broadcastInDim S1x512 ![1] bcast_S512_S1x512_1),
    unary main_v91 main_v92 (broadcastInDim S9216x512 ![0, 1] bcast_S1x512_S9216x512_0_1),
    binary main_v88 main_v92 main_v93 addf,
    nullary main_call9_v0 (iotaInDim S9216x512 32 1),
    nullary main_call9_cst (constant S_ .f32 0x7F800000#32),
    nullary main_call9_c (constantI S_ 32 0#32),
    quaternary main_v93 main_call9_v0 main_call9_cst main_call9_c main_call9_v1_0 (fun x y u v j => (Host.argReduce reducer_argmin_f32_i32 x y u v reducesTo_S9216x512_S9216_d1 h_S_ j).1),
    quaternary main_v93 main_call9_v0 main_call9_cst main_call9_c main_v94 (fun x y u v j => (Host.argReduce reducer_argmin_f32_i32 x y u v reducesTo_S9216x512_S9216_d1 h_S_ j).2),
    nullary main_call10_c (constantI S_ 32 0#32),
    unary main_call10_c main_call10_v0 (broadcastInDim S9216 ![] bcast_S_S9216),
    binary main_v94 main_call10_v0 main_call10_v1 (cmpi .slt),
    nullary main_call10_c_0 (constantI S_ 32 512#32),
    unary main_call10_c_0 main_call10_v2 (broadcastInDim S9216 ![] bcast_S_S9216),
    binary main_v94 main_call10_v2 main_call10_v3 addi,
    ternary main_call10_v1 main_call10_v3 main_v94 main_call10_v4 select,
    unary main_call10_v4 main_call10_v5 (broadcastInDim S9216x1 ![0] bcast_S9216_S9216x1_0),
    nullary main_call10_c_1 (constantI S1 32 511#32),
    nullary main_call10_c_2 (constantI S_ 32 0#32),
    unary main_call10_c_2 main_call10_v6 (broadcastInDim S9216x1 ![] bcast_S_S9216x1),
    binary main_call10_v5 main_call10_v6 main_call10_v7 (cmpi .sge),
    unary main_call10_c_1 main_call10_v8 (broadcastInDim S1x1 ![1] bcast_S1_S1x1_1),
    unary main_call10_v8 main_call10_v9 (broadcastInDim S9216x1 ![0, 1] bcast_S1x1_S9216x1_0_1),
    binary main_call10_v5 main_call10_v9 main_call10_v10 (cmpi .sle),
    binary main_call10_v7 main_call10_v10 main_call10_v11 andi,
    nullary main_call10_c_3 (constantI S_ 1 1#1),
    binary main_call10_v11 main_call10_c_3 main_call10_v12 (fun x v => Host.reduce IntOp.andi x v reducesTo_S9216x1_S9216_d1 h_S_),
    binary main_v79 main_call10_v5 main_call10_v13 (fun x i => Host.gather gather_S512x256_S9216x1_S9216x256_1_0_n_n_0_1_1256 x i),
    unary main_call10_v12 main_call10_v14 (broadcastInDim S9216x256 ![0] bcast_S9216_S9216x256_0),
    nullary main_call10_cst (constant S_ .f32 0x7FC00000#32),
    unary main_call10_cst main_call10_v15 (broadcastInDim S9216x256 ![] bcast_S_S9216x256),
    ternary main_call10_v14 main_call10_v13 main_call10_v15 main_v95 select,
    binary main_v71 main_v95 main_v96 addf,
    binary main_v72 main_v95 main_v97 subf,
    unary main_v94 main_call11_v0 (broadcastInDim S9216x1 ![0] bcast_S9216_S9216x1_0),
    nullary main_call11_v1 (iotaInDim S1x512 32 1),
    unary main_call11_v0 main_call11_v2 (broadcastInDim S9216x512 ![0, 1] bcast_S9216x1_S9216x512_0_1),
    unary main_call11_v1 main_call11_v3 (broadcastInDim S9216x512 ![0, 1] bcast_S1x512_S9216x512_0_1),
    binary main_call11_v2 main_call11_v3 main_call11_v4 (cmpi .eq),
    unary main_call11_v4 main_v98 (uitofp .f32),
    nullary main_cst_19 (constant S_ .f32 0x00000000#32),
    binary main_v98 main_cst_19 main_v99 (fun x v => Host.reduceAdd x v reducesTo_S9216x512_S512_d0 h_S_),
    nullary main_cst_20 (constant S_ .f32 0x46100000#32),
    unary main_cst_20 main_v100 (broadcastInDim S512 ![] bcast_S_S512),
    binary main_v99 main_v100 main_v101 Host.divf,
    binary main_v77 main_v101 main_v102 addf ]

/-- The buffers stage3 writes. -/
abbrev stage3W : List (Ref sig .tc) :=
  [main_v78, main_v79, main_v80, main_cst_16, main_v81, main_v82, main_cst_17, main_v83, main_v84, main_v85, main_v86, main_v87, main_v88, main_v89, main_cst_18, main_v90, main_v91, main_v92, main_v93, main_call9_v0, main_call9_cst, main_call9_c, main_call9_v1_0, main_v94, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v95, main_v96, main_v97, main_call11_v0, main_call11_v1, main_call11_v2, main_call11_v3, main_call11_v4, main_v98, main_cst_19, main_v99, main_cst_20, main_v100, main_v101, main_v102]

/-- The results from the four stages: the loss, the straight-through rows, the perplexity, the packed index and the digits. -/
abbrev fin : List (HloOp τ sig (Elt F)) :=
  [ binary main_v0 main_v96 main_v103 subf,
    binary main_v103 main_v103 main_v104 mulf,
    nullary main_cst_21 (constant S_ .f32 0x00000000#32),
    binary main_v104 main_cst_21 main_v105 (fun x v => Host.reduceAdd x v reducesTo_S9216x256_S_d0_1 h_S_),
    nullary main_cst_22 (constant S_ .f32 0x4A100000#32),
    binary main_v105 main_cst_22 main_v106 Host.divf,
    binary main_v0 main_v96 main_v107 subf,
    binary main_v107 main_v107 main_v108 mulf,
    nullary main_cst_23 (constant S_ .f32 0x00000000#32),
    binary main_v108 main_cst_23 main_v109 (fun x v => Host.reduceAdd x v reducesTo_S9216x256_S_d0_1 h_S_),
    nullary main_cst_24 (constant S_ .f32 0x4A100000#32),
    binary main_v109 main_cst_24 main_v110 Host.divf,
    nullary main_cst_25 (constant S_ .f32 0x3E800000#32),
    binary main_cst_25 main_v106 main_v111 mulf,
    binary main_v111 main_v110 main_v112 addf,
    binary main_v96 main_v0 main_v113 subf,
    binary main_v0 main_v113 main_v114 addf,
    reshape main_v114 main_v115 (rfl : (.f32 : EltTy) = .f32) shapeCasts_S9216x256_S16x576x256,
    nullary main_cst_26 (constant S_ .f32 0x40800000#32),
    unary main_cst_26 main_v116 (broadcastInDim S512 ![] bcast_S_S512),
    binary main_v102 main_v116 main_v117 Host.divf,
    nullary main_cst_27 (constant S_ .f32 0x2EDBE6FF#32),
    unary main_cst_27 main_v118 (broadcastInDim S512 ![] bcast_S_S512),
    binary main_v117 main_v118 main_v119 addf,
    unary main_v119 main_v120 Host.log,
    binary main_v117 main_v120 main_v121 mulf,
    nullary main_cst_28 (constant S_ .f32 0x00000000#32),
    binary main_v121 main_cst_28 main_v122 (fun x v => Host.reduceAdd x v reducesTo_S512_S_d0 h_S_),
    unary main_v122 main_v123 Host.negf,
    unary main_v123 main_v124 Host.exp,
    nullary main_c (constantI S_ 32 0#32),
    unary main_c main_v125 (broadcastInDim S9216 ![] bcast_S_S9216),
    nullary main_c_29 (constantI S_ 32 1#32),
    unary main_c_29 main_v126 (broadcastInDim S9216 ![] bcast_S_S9216),
    binary main_v19 main_v126 main_v127 muli,
    binary main_v125 main_v127 main_v128 addi,
    nullary main_c_30 (constantI S_ 32 512#32),
    unary main_c_30 main_v129 (broadcastInDim S9216 ![] bcast_S_S9216),
    binary main_v44 main_v129 main_v130 muli,
    binary main_v128 main_v130 main_v131 addi,
    nullary main_c_31 (constantI S_ 32 262144#32),
    unary main_c_31 main_v132 (broadcastInDim S9216 ![] bcast_S_S9216),
    binary main_v69 main_v132 main_v133 muli,
    binary main_v131 main_v133 main_v134 addi,
    nullary main_c_32 (constantI S_ 32 134217728#32),
    unary main_c_32 main_v135 (broadcastInDim S9216 ![] bcast_S_S9216),
    binary main_v94 main_v135 main_v136 muli,
    binary main_v134 main_v136 main_v137 addi,
    reshape main_v137 main_v138 (rfl : (.i32 : EltTy) = .i32) shapeCasts_S9216_S16x576,
    reshape main_v19 main_v139 (rfl : (.i32 : EltTy) = .i32) shapeCasts_S9216_S16x576,
    reshape main_v44 main_v140 (rfl : (.i32 : EltTy) = .i32) shapeCasts_S9216_S16x576,
    reshape main_v69 main_v141 (rfl : (.i32 : EltTy) = .i32) shapeCasts_S9216_S16x576,
    reshape main_v94 main_v142 (rfl : (.i32 : EltTy) = .i32) shapeCasts_S9216_S16x576,
    unary main_v139 main_v143 (broadcastInDim S1x16x576 ![1, 2] bcast_S16x576_S1x16x576_1_2),
    unary main_v140 main_v144 (broadcastInDim S1x16x576 ![1, 2] bcast_S16x576_S1x16x576_1_2),
    unary main_v141 main_v145 (broadcastInDim S1x16x576 ![1, 2] bcast_S16x576_S1x16x576_1_2),
    unary main_v142 main_v146 (broadcastInDim S1x16x576 ![1, 2] bcast_S16x576_S1x16x576_1_2),
    nary ![main_v143, main_v144, main_v145, main_v146] main_v147 (fun u => (concatenate S4x16x576 0 [⟨S1x16x576, (u 0 : (⟨S1x16x576, .i32⟩ : BufTy).Contents (Elt F))⟩, ⟨S1x16x576, (u 1 : (⟨S1x16x576, .i32⟩ : BufTy).Contents (Elt F))⟩, ⟨S1x16x576, (u 2 : (⟨S1x16x576, .i32⟩ : BufTy).Contents (Elt F))⟩, ⟨S1x16x576, (u 3 : (⟨S1x16x576, .i32⟩ : BufTy).Contents (Elt F))⟩] concatenates_S1x16x576_S1x16x576_S1x16x576_S1x16x576_S4x16x576_d0 : (⟨S4x16x576, .i32⟩ : BufTy).Contents (Elt F))),
    nullary main_c_33 (constantI S_ 1 0#1),
    unary main_c_33 main_v148 (broadcastInDim S16x576 ![] bcast_S_S16x576) ]

/-- The buffers fin writes. -/
abbrev finW : List (Ref sig .tc) :=
  [main_v103, main_v104, main_cst_21, main_v105, main_cst_22, main_v106, main_v107, main_v108, main_cst_23, main_v109, main_cst_24, main_v110, main_cst_25, main_v111, main_v112, main_v113, main_v114, main_v115, main_cst_26, main_v116, main_v117, main_cst_27, main_v118, main_v119, main_v120, main_v121, main_cst_28, main_v122, main_v123, main_v124, main_c, main_v125, main_c_29, main_v126, main_v127, main_v128, main_c_30, main_v129, main_v130, main_v131, main_c_31, main_v132, main_v133, main_v134, main_c_32, main_v135, main_v136, main_v137, main_v138, main_v139, main_v140, main_v141, main_v142, main_v143, main_v144, main_v145, main_v146, main_v147, main_c_33, main_v148]

/-- All of them, in the program's order. -/
abbrev line : List (HloOp τ sig (Elt F)) :=
  pre ++ (stage0 ++ (stage1 ++ (stage2 ++ (stage3 ++ fin))))

set_option maxRecDepth 65536 in
set_option maxHeartbeats 4000000 in
/-- The program is that line. -/
theorem main_line (c : Dev nD) : main (F := F) c = seq line := rfl

set_option maxRecDepth 8192 in
/-- The buffers that the set-up writes. -/
theorem pre_writes : (pre : List (HloOp τ sig (Elt F))).Forall fun op =>
    op.writes ⊆ (preW.map (Proc.devRef (τ := τ) .tc)).toFinset := forall_writes_sub_of_map rfl

set_option maxRecDepth 8192 in
/-- Every buffer that the set-up touches is one of the buffers that the program declares. -/
theorem pre_tc : (pre : List (HloOp τ sig (Elt F))).Forall fun op => op.bufs ⊆ tcRefs τ sig :=
  ⟨reshape_bufs_sub .., nullary_bufs_sub .., unary_bufs_sub .., nullary_bufs_sub .., unary_bufs_sub ..⟩

set_option maxRecDepth 8192 in
/-- Every operation of the set-up has one outcome. -/
theorem pre_det : (pre : List (HloOp τ sig (Elt F))).Forall fun op => op.fresh = ∅ :=
  ⟨rfl, rfl, rfl, rfl, rfl⟩

set_option maxRecDepth 8192 in
/-- The buffers that the first quantiser writes. -/
theorem stage0_writes : (stage0 : List (HloOp τ sig (Elt F))).Forall fun op =>
    op.writes ⊆ (stage0W.map (Proc.devRef (τ := τ) .tc)).toFinset := forall_writes_sub_of_map rfl

set_option maxRecDepth 8192 in
/-- Every buffer that the first quantiser touches is one of the buffers that the program declares. -/
theorem stage0_tc : (stage0 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., binary_bufs_sub ..⟩

set_option maxRecDepth 8192 in
/-- Every operation of the first quantiser has one outcome. -/
theorem stage0_det : (stage0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The buffers that the second quantiser writes. -/
theorem stage1_writes : (stage1 : List (HloOp τ sig (Elt F))).Forall fun op =>
    op.writes ⊆ (stage1W.map (Proc.devRef (τ := τ) .tc)).toFinset := forall_writes_sub_of_map rfl

set_option maxRecDepth 8192 in
/-- Every buffer that the second quantiser touches is one of the buffers that the program declares. -/
theorem stage1_tc : (stage1 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., binary_bufs_sub ..⟩

set_option maxRecDepth 8192 in
/-- Every operation of the second quantiser has one outcome. -/
theorem stage1_det : (stage1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The buffers that the third quantiser writes. -/
theorem stage2_writes : (stage2 : List (HloOp τ sig (Elt F))).Forall fun op =>
    op.writes ⊆ (stage2W.map (Proc.devRef (τ := τ) .tc)).toFinset := forall_writes_sub_of_map rfl

set_option maxRecDepth 8192 in
/-- Every buffer that the third quantiser touches is one of the buffers that the program declares. -/
theorem stage2_tc : (stage2 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., binary_bufs_sub ..⟩

set_option maxRecDepth 8192 in
/-- Every operation of the third quantiser has one outcome. -/
theorem stage2_det : (stage2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The buffers that the fourth quantiser writes. -/
theorem stage3_writes : (stage3 : List (HloOp τ sig (Elt F))).Forall fun op =>
    op.writes ⊆ (stage3W.map (Proc.devRef (τ := τ) .tc)).toFinset := forall_writes_sub_of_map rfl

set_option maxRecDepth 8192 in
/-- Every buffer that the fourth quantiser touches is one of the buffers that the program declares. -/
theorem stage3_tc : (stage3 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., binary_bufs_sub ..⟩

set_option maxRecDepth 8192 in
/-- Every operation of the fourth quantiser has one outcome. -/
theorem stage3_det : (stage3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The buffers that the closing stretch writes. -/
theorem fin_writes : (fin : List (HloOp τ sig (Elt F))).Forall fun op =>
    op.writes ⊆ (finW.map (Proc.devRef (τ := τ) .tc)).toFinset := forall_writes_sub_of_map rfl

set_option maxRecDepth 8192 in
/-- Every buffer that the closing stretch touches is one of the buffers that the program declares. -/
theorem fin_tc : (fin : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., reshape_bufs_sub .., reshape_bufs_sub .., reshape_bufs_sub .., reshape_bufs_sub .., reshape_bufs_sub .., unary_bufs_sub .., unary_bufs_sub .., unary_bufs_sub .., unary_bufs_sub .., nary_bufs_sub .., nullary_bufs_sub .., unary_bufs_sub ..⟩

set_option maxRecDepth 8192 in
/-- Every operation of the closing stretch has one outcome. -/
theorem fin_det : (fin : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A property of every operation of each stretch is one of every operation of the line. -/
theorem line_all {P : HloOp τ sig (Elt F) → Prop} (h0 : pre.Forall P) (h1 : stage0.Forall P) (h2 : stage1.Forall P)
    (h3 : stage2.Forall P) (h4 : stage3.Forall P) (h5 : fin.Forall P) : ∀ op ∈ (line (F := F)), P op := by
  intro op h
  rcases List.mem_append.mp h with h | h
  · exact List.forall_iff_forall_mem.mp h0 op h
  rcases List.mem_append.mp h with h | h
  · exact List.forall_iff_forall_mem.mp h1 op h
  rcases List.mem_append.mp h with h | h
  · exact List.forall_iff_forall_mem.mp h2 op h
  rcases List.mem_append.mp h with h | h
  · exact List.forall_iff_forall_mem.mp h3 op h
  rcases List.mem_append.mp h with h | h
  · exact List.forall_iff_forall_mem.mp h4 op h
  · exact List.forall_iff_forall_mem.mp h5 op h

/-- The reference has no scoped buffers. -/
theorem noScopedRefs : (Finset.univ.filter fun b : Ref sig .tc => b.isScoped) = ∅ := by decide

/-- The reference has no scoped semaphores. -/
theorem noScopedSems : (Finset.univ.filter fun sm : SemLoc sig => sm.isScoped .tc) = ∅ := by decide

/-- From any memory with zero counters every run of the reference ends, each buffer at what the line leaves in it. -/
theorem line_run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after line (launchContents m d) (Proc.devRef .tc b) :=
  run_seq noScopedRefs noScopedSems defs main (fun _ => line) main_line
    (fun _ => List.forall_iff_forall_mem.mpr (line_all pre_tc stage0_tc stage1_tc stage2_tc stage3_tc fin_tc)) m ρ
    (fun _ => line_all pre_det stage0_det stage1_det stage2_det stage3_det fin_det)

/-- The contents after the set-up, and after each quantiser. -/
abbrev upTo0 (V : Valuation τ sig (Elt F)) : Valuation τ sig (Elt F) := after pre V

/-- The contents after one quantiser. -/
abbrev upTo1 (V : Valuation τ sig (Elt F)) : Valuation τ sig (Elt F) := after stage0 (upTo0 V)

/-- The contents after two quantisers. -/
abbrev upTo2 (V : Valuation τ sig (Elt F)) : Valuation τ sig (Elt F) := after stage1 (upTo1 V)

/-- The contents after three quantisers. -/
abbrev upTo3 (V : Valuation τ sig (Elt F)) : Valuation τ sig (Elt F) := after stage2 (upTo2 V)

/-- The contents after four quantisers. -/
abbrev upTo4 (V : Valuation τ sig (Elt F)) : Valuation τ sig (Elt F) := after stage3 (upTo3 V)

/-- The line stretch by stretch. -/
theorem line_after (V : Valuation τ sig (Elt F)) : after line V = after fin (upTo4 V) := by
  simp only [line, after_append]

/-- A buffer no stretch writes keeps its contents. -/
theorem line_keep (V : Valuation τ sig (Elt F)) (r : Ref sig .tc) (h0 : r ∉ preW) (h1 : r ∉ stage0W) (h2 : r ∉ stage1W)
    (h3 : r ∉ stage2W) (h4 : r ∉ stage3W) (h5 : r ∉ finW) :
    after line V (Proc.devRef .tc r) = V (Proc.devRef .tc r) := by
  rw [line_after]
  exact (after_of_writes_sub fin _ fin_writes h5).trans <| (after_of_writes_sub stage3 _ stage3_writes h4).trans <|
    (after_of_writes_sub stage2 _ stage2_writes h3).trans <| (after_of_writes_sub stage1 _ stage1_writes h2).trans <|
    (after_of_writes_sub stage0 _ stage0_writes h1).trans <| after_of_writes_sub pre _ pre_writes h0

end Cert.Proof.RefOps

end
-- ==== Proof.RefTerms.lean ====
/-
  What one quantiser of the reference computes, as functions of arrays: the distances of every row to every code, the
  nearest code, the row looked up for it, the one-hot array and the usage it adds. All four quantisers are these
  functions at their own codebook; `RefStages` reads the program's buffers as them.
-/
module

public import proofs.«01_k».proof.Proof.Gen.ReferenceIdeal

@[expose] public section

noncomputable section

namespace Cert.Proof.RefTerms

open Cert.ReferenceIdeal Cert.ReferenceIdeal.Gen
open Idealize.ShloMosaic

variable {F : FTy → Type} [FloatOps F]

/-- A scalar zero, as the reference's sums start from it. -/
abbrev zero : FVec F S_ .f32 := constant S_ .f32 0x00000000#32

/-- The four codebooks one at a time. -/
def book0 (C : FVec F S4x512x256 .f32) : FVec F S512x256 .f32 :=
  shapeCast S512x256 (extractStridedSlice S1x512x256 ![0, 0, 0] C slices_S4x512x256_S1x512x256_0_0_0) shapeCasts_S1x512x256_S512x256

/-- The second codebook. -/
def book1 (C : FVec F S4x512x256 .f32) : FVec F S512x256 .f32 :=
  shapeCast S512x256 (extractStridedSlice S1x512x256 ![1, 0, 0] C slices_S4x512x256_S1x512x256_1_0_0) shapeCasts_S1x512x256_S512x256

/-- The third codebook. -/
def book2 (C : FVec F S4x512x256 .f32) : FVec F S512x256 .f32 :=
  shapeCast S512x256 (extractStridedSlice S1x512x256 ![2, 0, 0] C slices_S4x512x256_S1x512x256_2_0_0) shapeCasts_S1x512x256_S512x256

/-- The fourth codebook. -/
def book3 (C : FVec F S4x512x256 .f32) : FVec F S512x256 .f32 :=
  shapeCast S512x256 (extractStridedSlice S1x512x256 ![3, 0, 0] C slices_S4x512x256_S1x512x256_3_0_0) shapeCasts_S1x512x256_S512x256

/-- Every row's distance to every code: `Σ r² - Σ (2 r) c + Σ c²`. -/
def distances (B : FVec F S512x256 .f32) (r : FVec F S9216x256 .f32) : FVec F S9216x512 .f32 :=
  addf
    (subf
      (broadcastInDim S9216x512 ![0, 1] bcast_S9216x1_S9216x512_0_1
        (broadcastInDim S9216x1 ![0] bcast_S9216_S9216x1_0
          (Host.reduceAdd (mulf r r) zero reducesTo_S9216x256_S9216_d1 h_S_)))
      (Host.dotGeneral dot_S9216x256_S256x512_S9216x512_1_0_0_1_n_n none
        (mulf (broadcastInDim S9216x256 ![] bcast_S_S9216x256 (constant S_ .f32 0x40000000#32)) r)
        (transpose S256x512 [1, 0] B transposes_S512x256_S256x512_1_0)))
    (broadcastInDim S9216x512 ![0, 1] bcast_S1x512_S9216x512_0_1
      (broadcastInDim S1x512 ![1] bcast_S512_S1x512_1
        (Host.reduceAdd (mulf B B) zero reducesTo_S512x256_S512_d1 h_S_)))

/-- The position of the least entry of each row. -/
def nearest (d : FVec F S9216x512 .f32) : IVec S9216 32 :=
  fun j => (Host.argReduce reducer_argmin_f32_i32 d (iotaInDim S9216x512 32 1) (constant S_ .f32 0x7F800000#32)
    (constantI S_ 32 0#32) reducesTo_S9216x512_S9216_d1 h_S_ j).2

/-- An index below zero counted from the end, as a column. -/
def wrapped (i : IVec S9216 32) : IVec S9216x1 32 :=
  broadcastInDim S9216x1 ![0] bcast_S9216_S9216x1_0
    (select (cmpi .slt i (broadcastInDim S9216 ![] bcast_S_S9216 (constantI S_ 32 0#32)))
      (addi i (broadcastInDim S9216 ![] bcast_S_S9216 (constantI S_ 32 512#32))) i)

/-- Whether an index names a code. -/
def inRange (i : IVec S9216x1 32) : IVec S9216 1 :=
  Host.reduce IntOp.andi
    (andi (cmpi .sge i (broadcastInDim S9216x1 ![] bcast_S_S9216x1 (constantI S_ 32 0#32)))
      (cmpi .sle i (broadcastInDim S9216x1 ![0, 1] bcast_S1x1_S9216x1_0_1
        (broadcastInDim S1x1 ![1] bcast_S1_S1x1_1 (constantI S1 32 511#32)))))
    (constantI S_ 1 1#1) reducesTo_S9216x1_S9216_d1 h_S_

/-- The codebook's rows at the indices. -/
def looked (B : FVec F S512x256 .f32) (i : IVec S9216 32) : FVec F S9216x256 .f32 :=
  select (broadcastInDim S9216x256 ![0] bcast_S9216_S9216x256_0 (inRange (wrapped i)))
    (Host.gather gather_S512x256_S9216x1_S9216x256_1_0_n_n_0_1_1256 B (wrapped i))
    (broadcastInDim S9216x256 ![] bcast_S_S9216x256 (constant S_ .f32 0x7FC00000#32))

/-- One where the column is the row's index, zero elsewhere. -/
def hots (i : IVec S9216 32) : FVec F S9216x512 .f32 :=
  uitofp .f32
    (cmpi .eq
      (broadcastInDim S9216x512 ![0, 1] bcast_S9216x1_S9216x512_0_1 (broadcastInDim S9216x1 ![0] bcast_S9216_S9216x1_0 i))
      (broadcastInDim S9216x512 ![0, 1] bcast_S1x512_S9216x512_0_1 (iotaInDim S1x512 32 1)))

/-- The running usage with one more quantiser's: the mean of its one-hot rows added. -/
def usage (u : FVec F S512 .f32) (i : IVec S9216 32) : FVec F S512 .f32 :=
  addf u (Host.divf (Host.reduceAdd (hots i) zero reducesTo_S9216x512_S512_d0 h_S_)
    (broadcastInDim S512 ![] bcast_S_S512 (constant S_ .f32 0x46100000#32)))

/-- The codes of the rows `r` in the codebook `B`. -/
def codes (B : FVec F S512x256 .f32) (r : FVec F S9216x256 .f32) : IVec S9216 32 := nearest (distances B r)

/-- The rows `r` with their nearest codes taken off. -/
def rest (B : FVec F S512x256 .f32) (r : FVec F S9216x256 .f32) : FVec F S9216x256 .f32 := subf r (looked B (codes B r))

/-- The running sum `q` with the nearest codes of `r` added. -/
def summed (B : FVec F S512x256 .f32) (q r : FVec F S9216x256 .f32) : FVec F S9216x256 .f32 := addf q (looked B (codes B r))

end Cert.Proof.RefTerms

end
-- ==== Proof.RefStages.lean ====
/-
  The buffers the reference's four quantisers leave, in the words of `RefTerms`: from the contents before a quantiser,
  its codes, the running sum, what is left of the rows, and the running usage.
-/
module

public import proofs.«01_k».proof.Proof.RefOps
public import proofs.«01_k».proof.Proof.RefTerms

@[expose] public section

noncomputable section

namespace Cert.Proof.RefStages

open Cert.ReferenceIdeal Cert.ReferenceIdeal.Gen Cert.Proof.RefOps Cert.Proof.RefTerms
open Idealize.ShloMosaic Idealize.ShloMosaic.TcCoe Idealize.ShloMosaic.StableHlo Idealize.SL.Sem

variable {F : FTy → Type} [FloatOps F]

set_option maxRecDepth 8192 in
set_option maxHeartbeats 4000000 in
/-- The first quantiser's codes. -/
theorem stage0_codes (V : Valuation τ sig (Elt F)) : after stage0 V (main_v19 : DevRef τ sig) = codes (book0 (V (main_arg1 : DevRef τ sig))) (V (main_v0 : DevRef τ sig)) := by
  after_reads_simp
  rfl

set_option maxRecDepth 8192 in
set_option maxHeartbeats 4000000 in
/-- The first quantiser adds its codes to the running sum. -/
theorem stage0_summed (V : Valuation τ sig (Elt F)) : after stage0 V (main_v21 : DevRef τ sig) = summed (book0 (V (main_arg1 : DevRef τ sig))) (V (main_v1 : DevRef τ sig)) (V (main_v0 : DevRef τ sig)) := by
  after_reads_simp
  rfl

set_option maxRecDepth 8192 in
set_option maxHeartbeats 4000000 in
/-- The first quantiser takes its codes off the rows. -/
theorem stage0_rest (V : Valuation τ sig (Elt F)) : after stage0 V (main_v22 : DevRef τ sig) = rest (book0 (V (main_arg1 : DevRef τ sig))) (V (main_v0 : DevRef τ sig)) := by
  after_reads_simp
  rfl

set_option maxRecDepth 8192 in
set_option maxHeartbeats 4000000 in
/-- The first quantiser adds its usage. -/
theorem stage0_usage (V : Valuation τ sig (Elt F)) : after stage0 V (main_v27 : DevRef τ sig) = usage (V (main_v2 : DevRef τ sig)) (codes (book0 (V (main_arg1 : DevRef τ sig))) (V (main_v0 : DevRef τ sig))) := by
  after_reads_simp
  rfl

set_option maxRecDepth 8192 in
set_option maxHeartbeats 4000000 in
/-- The second quantiser's codes. -/
theorem stage1_codes (V : Valuation τ sig (Elt F)) : after stage1 V (main_v44 : DevRef τ sig) = codes (book1 (V (main_arg1 : DevRef τ sig))) (V (main_v22 : DevRef τ sig)) := by
  after_reads_simp
  rfl

set_option maxRecDepth 8192 in
set_option maxHeartbeats 4000000 in
/-- The second quantiser adds its codes to the running sum. -/
theorem stage1_summed (V : Valuation τ sig (Elt F)) : after stage1 V (main_v46 : DevRef τ sig) = summed (book1 (V (main_arg1 : DevRef τ sig))) (V (main_v21 : DevRef τ sig)) (V (main_v22 : DevRef τ sig)) := by
  after_reads_simp
  rfl

set_option maxRecDepth 8192 in
set_option maxHeartbeats 4000000 in
/-- The second quantiser takes its codes off the rows. -/
theorem stage1_rest (V : Valuation τ sig (Elt F)) : after stage1 V (main_v47 : DevRef τ sig) = rest (book1 (V (main_arg1 : DevRef τ sig))) (V (main_v22 : DevRef τ sig)) := by
  after_reads_simp
  rfl

set_option maxRecDepth 8192 in
set_option maxHeartbeats 4000000 in
/-- The second quantiser adds its usage. -/
theorem stage1_usage (V : Valuation τ sig (Elt F)) : after stage1 V (main_v52 : DevRef τ sig) = usage (V (main_v27 : DevRef τ sig)) (codes (book1 (V (main_arg1 : DevRef τ sig))) (V (main_v22 : DevRef τ sig))) := by
  after_reads_simp
  rfl

set_option maxRecDepth 8192 in
set_option maxHeartbeats 4000000 in
/-- The third quantiser's codes. -/
theorem stage2_codes (V : Valuation τ sig (Elt F)) : after stage2 V (main_v69 : DevRef τ sig) = codes (book2 (V (main_arg1 : DevRef τ sig))) (V (main_v47 : DevRef τ sig)) := by
  after_reads_simp
  rfl

set_option maxRecDepth 8192 in
set_option maxHeartbeats 4000000 in
/-- The third quantiser adds its codes to the running sum. -/
theorem stage2_summed (V : Valuation τ sig (Elt F)) : after stage2 V (main_v71 : DevRef τ sig) = summed (book2 (V (main_arg1 : DevRef τ sig))) (V (main_v46 : DevRef τ sig)) (V (main_v47 : DevRef τ sig)) := by
  after_reads_simp
  rfl

set_option maxRecDepth 8192 in
set_option maxHeartbeats 4000000 in
/-- The third quantiser takes its codes off the rows. -/
theorem stage2_rest (V : Valuation τ sig (Elt F)) : after stage2 V (main_v72 : DevRef τ sig) = rest (book2 (V (main_arg1 : DevRef τ sig))) (V (main_v47 : DevRef τ sig)) := by
  after_reads_simp
  rfl

set_option maxRecDepth 8192 in
set_option maxHeartbeats 4000000 in
/-- The third quantiser adds its usage. -/
theorem stage2_usage (V : Valuation τ sig (Elt F)) : after stage2 V (main_v77 : DevRef τ sig) = usage (V (main_v52 : DevRef τ sig)) (codes (book2 (V (main_arg1 : DevRef τ sig))) (V (main_v47 : DevRef τ sig))) := by
  after_reads_simp
  rfl

set_option maxRecDepth 8192 in
set_option maxHeartbeats 4000000 in
/-- The fourth quantiser's codes. -/
theorem stage3_codes (V : Valuation τ sig (Elt F)) : after stage3 V (main_v94 : DevRef τ sig) = codes (book3 (V (main_arg1 : DevRef τ sig))) (V (main_v72 : DevRef τ sig)) := by
  after_reads_simp
  rfl

set_option maxRecDepth 8192 in
set_option maxHeartbeats 4000000 in
/-- The fourth quantiser adds its codes to the running sum. -/
theorem stage3_summed (V : Valuation τ sig (Elt F)) : after stage3 V (main_v96 : DevRef τ sig) = summed (book3 (V (main_arg1 : DevRef τ sig))) (V (main_v71 : DevRef τ sig)) (V (main_v72 : DevRef τ sig)) := by
  after_reads_simp
  rfl

set_option maxRecDepth 8192 in
set_option maxHeartbeats 4000000 in
/-- The fourth quantiser adds its usage. -/
theorem stage3_usage (V : Valuation τ sig (Elt F)) : after stage3 V (main_v102 : DevRef τ sig) = usage (V (main_v77 : DevRef τ sig)) (codes (book3 (V (main_arg1 : DevRef τ sig))) (V (main_v72 : DevRef τ sig))) := by
  after_reads_simp
  rfl

end Cert.Proof.RefStages

end
-- ==== Proof.RefTails.lean ====
/-
  The reference's six results as terms: what it makes of the rows, the running sum, the usage and the codes.
-/
module

public import proofs.«01_k».proof.Proof.RefTerms

@[expose] public section

noncomputable section

namespace Cert.Proof.RefTerms

open Cert.ReferenceIdeal Cert.ReferenceIdeal.Gen
open Idealize.ShloMosaic

variable {F : FTy → Type} [FloatOps F]

/-- The rows of the latents, and the zeros the running sum and the usage start from. -/
def rows (x : FVec F S16x576x256 .f32) : FVec F S9216x256 .f32 := shapeCast S9216x256 x shapeCasts_S16x576x256_S9216x256

/-- The running sum before the first quantiser. -/
def zeroRows : FVec F S9216x256 .f32 := broadcastInDim S9216x256 ![] bcast_S_S9216x256 (constant S_ .f32 0x00000000#32)

/-- The usage before the first quantiser. -/
def zeroUsage : FVec F S512 .f32 := broadcastInDim S512 ![] bcast_S_S512 (constant S_ .f32 0x00000000#32)

/-- The mean squared difference of the rows and the running sum. -/
def meanSquare (z q : FVec F S9216x256 .f32) : FVec F S_ .f32 :=
  Host.divf (Host.reduceAdd (mulf (subf z q) (subf z q)) zero reducesTo_S9216x256_S_d0_1 h_S_) (constant S_ .f32 0x4A100000#32)

/-- A quarter of the mean squared difference, and the mean squared difference. -/
def loss (z q : FVec F S9216x256 .f32) : FVec F S_ .f32 :=
  addf (mulf (constant S_ .f32 0x3E800000#32) (meanSquare z q)) (meanSquare z q)

/-- The straight-through rows. -/
def through (z q : FVec F S9216x256 .f32) : FVec F S9216x256 .f32 := addf z (subf q z)

/-- The mean usage, and its perplexity. -/
def meanUsage (u : FVec F S512 .f32) : FVec F S512 .f32 :=
  Host.divf u (broadcastInDim S512 ![] bcast_S_S512 (constant S_ .f32 0x40800000#32))

/-- The exponential of the mean usage's entropy. -/
def perplexity (u : FVec F S512 .f32) : FVec F S_ .f32 :=
  Host.exp (Host.negf (Host.reduceAdd
    (mulf (meanUsage u) (Host.log (addf (meanUsage u) (broadcastInDim S512 ![] bcast_S_S512 (constant S_ .f32 0x2EDBE6FF#32)))))
    zero reducesTo_S512_S_d0 h_S_))

/-- The composed index of each row. -/
def composedIndex (c0 c1 c2 c3 : IVec S9216 32) : IVec S9216 32 :=
  addi (addi (addi (addi (broadcastInDim S9216 ![] bcast_S_S9216 (constantI S_ 32 0#32))
    (muli c0 (broadcastInDim S9216 ![] bcast_S_S9216 (constantI S_ 32 1#32))))
    (muli c1 (broadcastInDim S9216 ![] bcast_S_S9216 (constantI S_ 32 512#32))))
    (muli c2 (broadcastInDim S9216 ![] bcast_S_S9216 (constantI S_ 32 262144#32))))
    (muli c3 (broadcastInDim S9216 ![] bcast_S_S9216 (constantI S_ 32 134217728#32)))

/-- The four codes of each row, one quantiser after the other. -/
def plane (c : IVec S9216 32) : IVec S1x16x576 32 :=
  broadcastInDim S1x16x576 ![1, 2] bcast_S16x576_S1x16x576_1_2 (shapeCast S16x576 c shapeCasts_S9216_S16x576)

/-- The four planes of digits stacked. -/
def planes (c0 c1 c2 c3 : IVec S9216 32) : IVec S4x16x576 32 :=
  concatenate S4x16x576 0 [⟨S1x16x576, plane c0⟩, ⟨S1x16x576, plane c1⟩, ⟨S1x16x576, plane c2⟩, ⟨S1x16x576, plane c3⟩]
    concatenates_S1x16x576_S1x16x576_S1x16x576_S1x16x576_S4x16x576_d0

/-- What is left of the rows before each quantiser, its codes, and the running sum and usage after it. -/
def codebook (C : FVec F S4x512x256 .f32) : ℕ → FVec F S512x256 .f32
  | 0 => book0 C
  | 1 => book1 C
  | 2 => book2 C
  | _ => book3 C

/-- What is left of the rows before quantiser `s`. -/
def restOf (C : FVec F S4x512x256 .f32) (z : FVec F S9216x256 .f32) : ℕ → FVec F S9216x256 .f32
  | 0 => z
  | s + 1 => rest (codebook C s) (restOf C z s)

/-- The codes that quantiser `s` chooses. -/
def codesOf (C : FVec F S4x512x256 .f32) (z : FVec F S9216x256 .f32) (s : ℕ) : IVec S9216 32 := codes (codebook C s) (restOf C z s)

/-- The sum of the codes of the first `s` quantisers. -/
def sumOf (C : FVec F S4x512x256 .f32) (z : FVec F S9216x256 .f32) : ℕ → FVec F S9216x256 .f32
  | 0 => zeroRows
  | s + 1 => summed (codebook C s) (sumOf C z s) (restOf C z s)

/-- The usage after `s` quantisers. -/
def usageOf (C : FVec F S4x512x256 .f32) (z : FVec F S9216x256 .f32) : ℕ → FVec F S512 .f32
  | 0 => zeroUsage
  | s + 1 => usage (usageOf C z s) (codesOf C z s)

end Cert.Proof.RefTerms

end
-- ==== Proof.RefFinal.lean ====
/-
  The reference's six results after its whole line, in the words of `RefTails`.
-/
module

public import proofs.«01_k».proof.Proof.RefStages
public import proofs.«01_k».proof.Proof.RefTails

@[expose] public section

set_option maxRecDepth 8192

noncomputable section

namespace Cert.Proof.RefFinal

open Cert.ReferenceIdeal Cert.ReferenceIdeal.Gen Cert.Proof.RefOps Cert.Proof.RefTerms Cert.Proof.RefStages
open Idealize.ShloMosaic Idealize.ShloMosaic.TcCoe Idealize.ShloMosaic.StableHlo Idealize.SL.Sem

variable {F : FTy → Type} [FloatOps F] (V : Valuation τ sig (Elt F))

/-- The codebooks and the rows the line starts from. -/
abbrev C₀ : FVec F S4x512x256 .f32 := V (main_arg1 : DevRef τ sig)

/-- The latents as rows. -/
abbrev z₀ : FVec F S9216x256 .f32 := rows (V (main_arg0 : DevRef τ sig))

set_option maxHeartbeats 1000000 in
/-- Before the quantisers the rows are the reshaped latents. -/
theorem at0_v0 : upTo0 V (main_v0 : DevRef τ sig) = z₀ V := by
  after_reads_simp
  rfl

/-- Before the quantisers the running sum is zero. -/
theorem at0_v1 : upTo0 V (main_v1 : DevRef τ sig) = zeroRows := by
  after_reads_simp
  rfl

/-- Before the quantisers the usage is zero. -/
theorem at0_v2 : upTo0 V (main_v2 : DevRef τ sig) = zeroUsage := by
  after_reads_simp
  rfl

/-- Before the quantisers the codebooks are the argument. -/
theorem at0_arg1 : upTo0 V (main_arg1 : DevRef τ sig) = C₀ V := after_of_writes_sub pre _ pre_writes (by decide)

/-- After one quantiser the rows are still the reshaped latents. -/
theorem at1_v0 : upTo1 V (main_v0 : DevRef τ sig) = z₀ V := (after_of_writes_sub stage0 _ stage0_writes (by decide)).trans (at0_v0 V)

/-- After one quantiser the codebooks are still the argument. -/
theorem at1_arg1 : upTo1 V (main_arg1 : DevRef τ sig) = C₀ V := (after_of_writes_sub stage0 _ stage0_writes (by decide)).trans (at0_arg1 V)

/-- After one quantiser the first quantiser's codes are in their buffer. -/
theorem at1_v19 : upTo1 V (main_v19 : DevRef τ sig) = codesOf (C₀ V) (z₀ V) 0 := by
  refine (stage0_codes (upTo0 V)).trans ?_
  rw [at0_arg1 V, at0_v0 V]
  rfl

/-- The running sum after one quantiser. -/
theorem at1_v21 : upTo1 V (main_v21 : DevRef τ sig) = sumOf (C₀ V) (z₀ V) 1 := by
  refine (stage0_summed (upTo0 V)).trans ?_
  rw [at0_arg1 V, at0_v1 V, at0_v0 V]
  rfl

/-- The usage after one quantiser. -/
theorem at1_v27 : upTo1 V (main_v27 : DevRef τ sig) = usageOf (C₀ V) (z₀ V) 1 := by
  refine (stage0_usage (upTo0 V)).trans ?_
  rw [at0_v2 V, at0_arg1 V, at0_v0 V]
  rfl

/-- What is left of the rows after one quantiser. -/
theorem at1_v22 : upTo1 V (main_v22 : DevRef τ sig) = restOf (C₀ V) (z₀ V) 1 := by
  refine (stage0_rest (upTo0 V)).trans ?_
  rw [at0_arg1 V, at0_v0 V]
  rfl

/-- After two quantisers the rows are still the reshaped latents. -/
theorem at2_v0 : upTo2 V (main_v0 : DevRef τ sig) = z₀ V := (after_of_writes_sub stage1 _ stage1_writes (by decide)).trans (at1_v0 V)

/-- After two quantisers the codebooks are still the argument. -/
theorem at2_arg1 : upTo2 V (main_arg1 : DevRef τ sig) = C₀ V := (after_of_writes_sub stage1 _ stage1_writes (by decide)).trans (at1_arg1 V)

/-- After two quantisers the first quantiser's codes are in their buffer. -/
theorem at2_v19 : upTo2 V (main_v19 : DevRef τ sig) = codesOf (C₀ V) (z₀ V) 0 := (after_of_writes_sub stage1 _ stage1_writes (by decide)).trans (at1_v19 V)

/-- After two quantisers the second quantiser's codes are in their buffer. -/
theorem at2_v44 : upTo2 V (main_v44 : DevRef τ sig) = codesOf (C₀ V) (z₀ V) 1 := by
  refine (stage1_codes (upTo1 V)).trans ?_
  rw [at1_arg1 V, at1_v22 V]
  rfl

/-- The running sum after two quantisers. -/
theorem at2_v46 : upTo2 V (main_v46 : DevRef τ sig) = sumOf (C₀ V) (z₀ V) 2 := by
  refine (stage1_summed (upTo1 V)).trans ?_
  rw [at1_arg1 V, at1_v21 V, at1_v22 V]
  rfl

/-- The usage after two quantisers. -/
theorem at2_v52 : upTo2 V (main_v52 : DevRef τ sig) = usageOf (C₀ V) (z₀ V) 2 := by
  refine (stage1_usage (upTo1 V)).trans ?_
  rw [at1_v27 V, at1_arg1 V, at1_v22 V]
  rfl

/-- What is left of the rows after two quantisers. -/
theorem at2_v47 : upTo2 V (main_v47 : DevRef τ sig) = restOf (C₀ V) (z₀ V) 2 := by
  refine (stage1_rest (upTo1 V)).trans ?_
  rw [at1_arg1 V, at1_v22 V]
  rfl

/-- After three quantisers the rows are still the reshaped latents. -/
theorem at3_v0 : upTo3 V (main_v0 : DevRef τ sig) = z₀ V := (after_of_writes_sub stage2 _ stage2_writes (by decide)).trans (at2_v0 V)

/-- After three quantisers the codebooks are still the argument. -/
theorem at3_arg1 : upTo3 V (main_arg1 : DevRef τ sig) = C₀ V := (after_of_writes_sub stage2 _ stage2_writes (by decide)).trans (at2_arg1 V)

/-- After three quantisers the first quantiser's codes are in their buffer. -/
theorem at3_v19 : upTo3 V (main_v19 : DevRef τ sig) = codesOf (C₀ V) (z₀ V) 0 := (after_of_writes_sub stage2 _ stage2_writes (by decide)).trans (at2_v19 V)

/-- After three quantisers the second quantiser's codes are in their buffer. -/
theorem at3_v44 : upTo3 V (main_v44 : DevRef τ sig) = codesOf (C₀ V) (z₀ V) 1 := (after_of_writes_sub stage2 _ stage2_writes (by decide)).trans (at2_v44 V)

/-- After three quantisers the third quantiser's codes are in their buffer. -/
theorem at3_v69 : upTo3 V (main_v69 : DevRef τ sig) = codesOf (C₀ V) (z₀ V) 2 := by
  refine (stage2_codes (upTo2 V)).trans ?_
  rw [at2_arg1 V, at2_v47 V]
  rfl

/-- The running sum after three quantisers. -/
theorem at3_v71 : upTo3 V (main_v71 : DevRef τ sig) = sumOf (C₀ V) (z₀ V) 3 := by
  refine (stage2_summed (upTo2 V)).trans ?_
  rw [at2_arg1 V, at2_v46 V, at2_v47 V]
  rfl

/-- The usage after three quantisers. -/
theorem at3_v77 : upTo3 V (main_v77 : DevRef τ sig) = usageOf (C₀ V) (z₀ V) 3 := by
  refine (stage2_usage (upTo2 V)).trans ?_
  rw [at2_v52 V, at2_arg1 V, at2_v47 V]
  rfl

/-- What is left of the rows after three quantisers. -/
theorem at3_v72 : upTo3 V (main_v72 : DevRef τ sig) = restOf (C₀ V) (z₀ V) 3 := by
  refine (stage2_rest (upTo2 V)).trans ?_
  rw [at2_arg1 V, at2_v47 V]
  rfl

/-- After four quantisers the rows are still the reshaped latents. -/
theorem at4_v0 : upTo4 V (main_v0 : DevRef τ sig) = z₀ V := (after_of_writes_sub stage3 _ stage3_writes (by decide)).trans (at3_v0 V)

/-- After four quantisers the codebooks are still the argument. -/
theorem at4_arg1 : upTo4 V (main_arg1 : DevRef τ sig) = C₀ V := (after_of_writes_sub stage3 _ stage3_writes (by decide)).trans (at3_arg1 V)

/-- After four quantisers the first quantiser's codes are in their buffer. -/
theorem at4_v19 : upTo4 V (main_v19 : DevRef τ sig) = codesOf (C₀ V) (z₀ V) 0 := (after_of_writes_sub stage3 _ stage3_writes (by decide)).trans (at3_v19 V)

/-- After four quantisers the second quantiser's codes are in their buffer. -/
theorem at4_v44 : upTo4 V (main_v44 : DevRef τ sig) = codesOf (C₀ V) (z₀ V) 1 := (after_of_writes_sub stage3 _ stage3_writes (by decide)).trans (at3_v44 V)

/-- After four quantisers the third quantiser's codes are in their buffer. -/
theorem at4_v69 : upTo4 V (main_v69 : DevRef τ sig) = codesOf (C₀ V) (z₀ V) 2 := (after_of_writes_sub stage3 _ stage3_writes (by decide)).trans (at3_v69 V)

/-- After four quantisers the fourth quantiser's codes are in their buffer. -/
theorem at4_v94 : upTo4 V (main_v94 : DevRef τ sig) = codesOf (C₀ V) (z₀ V) 3 := by
  refine (stage3_codes (upTo3 V)).trans ?_
  rw [at3_arg1 V, at3_v72 V]
  rfl

/-- The running sum after four quantisers. -/
theorem at4_v96 : upTo4 V (main_v96 : DevRef τ sig) = sumOf (C₀ V) (z₀ V) 4 := by
  refine (stage3_summed (upTo3 V)).trans ?_
  rw [at3_arg1 V, at3_v71 V, at3_v72 V]
  rfl

/-- The usage after four quantisers. -/
theorem at4_v102 : upTo4 V (main_v102 : DevRef τ sig) = usageOf (C₀ V) (z₀ V) 4 := by
  refine (stage3_usage (upTo3 V)).trans ?_
  rw [at3_v77 V, at3_arg1 V, at3_v72 V]
  rfl

/-! ### The closing stretch -/

set_option maxHeartbeats 4000000 in
/-- The closing stretch makes the straight-through rows of what the quantisers left. -/
theorem fin_v115 (W : Valuation τ sig (Elt F)) : after fin W (main_v115 : DevRef τ sig) = shapeCast S16x576x256 (through (W (main_v0 : DevRef τ sig)) (W (main_v96 : DevRef τ sig))) shapeCasts_S9216x256_S16x576x256 := by
  after_reads_simp
  rfl
set_option maxHeartbeats 4000000 in
/-- The closing stretch makes the loss of what the quantisers left. -/
theorem fin_v112 (W : Valuation τ sig (Elt F)) : after fin W (main_v112 : DevRef τ sig) = loss (W (main_v0 : DevRef τ sig)) (W (main_v96 : DevRef τ sig)) := by
  after_reads_simp
  rfl
set_option maxHeartbeats 4000000 in
/-- The closing stretch makes the perplexity of what the quantisers left. -/
theorem fin_v124 (W : Valuation τ sig (Elt F)) : after fin W (main_v124 : DevRef τ sig) = perplexity (W (main_v102 : DevRef τ sig)) := by
  after_reads_simp
  rfl
set_option maxHeartbeats 4000000 in
/-- The closing stretch makes the composed indices of what the quantisers left. -/
theorem fin_v138 (W : Valuation τ sig (Elt F)) : after fin W (main_v138 : DevRef τ sig) = shapeCast S16x576 (composedIndex (W (main_v19 : DevRef τ sig)) (W (main_v44 : DevRef τ sig)) (W (main_v69 : DevRef τ sig)) (W (main_v94 : DevRef τ sig))) shapeCasts_S9216_S16x576 := by
  after_reads_simp
  rfl
set_option maxHeartbeats 4000000 in
/-- The closing stretch makes the digits of what the quantisers left. -/
theorem fin_v147 (W : Valuation τ sig (Elt F)) : after fin W (main_v147 : DevRef τ sig) = planes (W (main_v19 : DevRef τ sig)) (W (main_v44 : DevRef τ sig)) (W (main_v69 : DevRef τ sig)) (W (main_v94 : DevRef τ sig)) := by
  after_reads_simp
  rfl
set_option maxHeartbeats 4000000 in
/-- The closing stretch makes the mask of what the quantisers left. -/
theorem fin_v148 (W : Valuation τ sig (Elt F)) : after fin W (main_v148 : DevRef τ sig) = broadcastInDim S16x576 ![] bcast_S_S16x576 (constantI S_ 1 0#1) := by
  after_reads_simp

/-! ### The results -/

/-- The reference's straight-through rows, as a term of the latents and the codebooks. -/
theorem line_v115 : after line V (main_v115 : DevRef τ sig) = shapeCast S16x576x256 (through (z₀ V) (sumOf (C₀ V) (z₀ V) 4)) shapeCasts_S9216x256_S16x576x256 := by
  rw [line_after, fin_v115, at4_v0 V, at4_v96 V]

/-- The reference's loss, as a term of the latents and the codebooks. -/
theorem line_v112 : after line V (main_v112 : DevRef τ sig) = loss (z₀ V) (sumOf (C₀ V) (z₀ V) 4) := by
  rw [line_after, fin_v112, at4_v0 V, at4_v96 V]

/-- The reference's perplexity, as a term of the latents and the codebooks. -/
theorem line_v124 : after line V (main_v124 : DevRef τ sig) = perplexity (usageOf (C₀ V) (z₀ V) 4) := by
  rw [line_after, fin_v124, at4_v102 V]

/-- The reference's composed indices, as a term of the latents and the codebooks. -/
theorem line_v138 : after line V (main_v138 : DevRef τ sig) = shapeCast S16x576 (composedIndex (codesOf (C₀ V) (z₀ V) 0) (codesOf (C₀ V) (z₀ V) 1) (codesOf (C₀ V) (z₀ V) 2) (codesOf (C₀ V) (z₀ V) 3)) shapeCasts_S9216_S16x576 := by
  rw [line_after, fin_v138, at4_v19 V, at4_v44 V, at4_v69 V, at4_v94 V]

/-- The reference's digits, as a term of the latents and the codebooks. -/
theorem line_v147 : after line V (main_v147 : DevRef τ sig) = planes (codesOf (C₀ V) (z₀ V) 0) (codesOf (C₀ V) (z₀ V) 1) (codesOf (C₀ V) (z₀ V) 2) (codesOf (C₀ V) (z₀ V) 3) := by
  rw [line_after, fin_v147, at4_v19 V, at4_v44 V, at4_v69 V, at4_v94 V]

/-- The reference's mask, as a term of the latents and the codebooks. -/
theorem line_v148 : after line V (main_v148 : DevRef τ sig) = broadcastInDim S16x576 ![] bcast_S_S16x576 (constantI S_ 1 0#1) := by
  rw [line_after, fin_v148]

end Cert.Proof.RefFinal

end
-- ==== Proof.RefArgmin.lean ====
/-
  The reference's arg-min over the extended reals: of a row's values it finds the first least one.
-/
module

public import proofs.«01_k».proof.Proof.RefTerms
public import proofs.«01_k».proof.Proof.Nearest
public import proofs.«01_k».proof.Proof.Consts

@[expose] public section

noncomputable section

namespace Cert.Proof.RefTerms

open Cert.ReferenceIdeal Cert.ReferenceIdeal.Gen Cert.Proof.Nearest
open Idealize.ShloMosaic

/-- Pairs of a value and an index compared by value, then by index. -/
def Before (a b : EReal × BitVec 32) : Prop := a.1 < b.1 ∨ (a.1 = b.1 ∧ a.2.toInt ≤ b.2.toInt)

/-- A pair comes before itself. -/
theorem before_refl (a : EReal × BitVec 32) : Before a a := .inr ⟨rfl, le_rfl⟩

/-- The order of pairs is transitive. -/
theorem before_trans {a b c : EReal × BitVec 32} : Before a b → Before b c → Before a c := by
  rintro (h | ⟨h, h'⟩) (g | ⟨g, g'⟩)
  · exact .inl (h.trans g)
  · exact .inl (g ▸ h)
  · exact .inl (h ▸ g)
  · exact .inr ⟨h.trans g, h'.trans g'⟩

/-- The arg-min's body keeps one of its two pairs, and one before both. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have e : reducer_argmin_f32_i32 (F := Ideal) (x, i) (y, j)
      = (if x < y then x else y, if x < y ∨ (x = y ∧ i.toInt < j.toInt) then i else j) := by
    unfold reducer_argmin_f32_i32
    simp only [Ideal.cmpf_def, Ideal.cmp]
    by_cases h1 : x < y
    · have hb : ∀ b : BitVec 1, 1#1 ||| b = 1#1 := by decide
      simp [h1, IntOp.ori, IntOp.andi, Scalar.select, hb]
    · by_cases h2 : x = y
      · by_cases h3 : i.toInt < j.toInt
        · simp [h2, h3, IntOp.ori, IntOp.andi, Scalar.select, IntOp.cmpi, BitVec.slt]
        · simp [h2, h3, IntOp.ori, IntOp.andi, Scalar.select, IntOp.cmpi, BitVec.slt]
      · simp [h1, h2, IntOp.ori, IntOp.andi, Scalar.select]
  rw [e]
  rcases lt_trichotomy x y with h | h | h
  · simp [h, Before]
  · subst h
    by_cases h3 : i.toInt < j.toInt
    · simp [h3, Before]; omega
    · simp [h3, Before]; omega
  · have h1 : ¬ x < y := not_lt.mpr h.le
    have h2 : x ≠ y := fun e => absurd h (by simp [e])
    simp [h1, h2, Before, h]

/-- The fold keeps a pair of the list or the first one, and one before all of them. -/
theorem fold_spec : ∀ (l : List (EReal × BitVec 32)) (a : EReal × BitVec 32),
    (l.foldl (reducer_argmin_f32_i32 (F := Ideal)) a = a ∨ l.foldl (reducer_argmin_f32_i32 (F := Ideal)) a ∈ l)
      ∧ Before (l.foldl (reducer_argmin_f32_i32 (F := Ideal)) a) a
      ∧ ∀ b ∈ l, Before (l.foldl (reducer_argmin_f32_i32 (F := Ideal)) a) b
  | [], a => ⟨.inl rfl, before_refl a, fun _ h => absurd h List.not_mem_nil⟩
  | c :: l, a => by
    obtain ⟨hm, ha, hl⟩ := fold_spec l (reducer_argmin_f32_i32 (F := Ideal) a c)
    obtain ⟨hr, h1, h2⟩ := reducer_spec a c
    rw [List.foldl_cons]
    refine ⟨?_, before_trans ha h1, ?_⟩
    · rcases hm with h | h
      · rcases hr with h' | h'
        · exact .inl (h.trans h')
        · exact .inr (by rw [h, h']; exact List.mem_cons_self)
      · exact .inr (List.mem_cons_of_mem _ h)
    · intro b hb
      rcases List.mem_cons.mp hb with rfl | hb
      · exact before_trans ha h2
      · exact hl b hb

/-- A code's word, read as a signed integer, is its position. -/
theorem toInt_of (k : Fin 512) : (BitVec.ofNat 32 k.val).toInt = k.val := Consts.toInt_small _ k.isLt

/-- Over all positions with their values it finds the first least one. -/
theorem fold_pick (f : Fin 512 → EReal) (l : List (EReal × BitVec 32)) (hl : ∀ p, p ∈ l ↔ ∃ k : Fin 512, p = (f k, BitVec.ofNat 32 k.val)) :
    (l.foldl (reducer_argmin_f32_i32 (F := Ideal)) (⊤, 0#32)).2 = BitVec.ofNat 32 (pick f).val := by
  obtain ⟨hm, ha, hb⟩ := fold_spec l (⊤, 0#32)
  have hb' : ∀ k : Fin 512, Before (l.foldl (reducer_argmin_f32_i32 (F := Ideal)) (⊤, 0#32)) (f k, BitVec.ofNat 32 k.val) :=
    fun k => hb _ ((hl _).mpr ⟨k, rfl⟩)
  rcases hm with h | h
  · rw [h] at hb' ⊢
    have ht : ∀ k, f k = ⊤ := fun k => by
      rcases hb' k with h | h
      · exact absurd h not_top_lt
      · exact h.1.symm
    rw [← pick_unique f 0 (fun j => by rw [ht, ht]) (fun j hj => absurd hj (by simp))]
    rfl
  · obtain ⟨k, hk⟩ := (hl _).mp h
    rw [hk] at hb' ⊢
    have : k = pick f := pick_unique f k
      (fun j => by
        rcases hb' j with h | h
        · exact h.le
        · exact h.1.le)
      (fun j hj => by
        rcases hb' j with h | h
        · exact h
        · have := h.2
          rw [toInt_of, toInt_of] at this
          have : k.val ≤ j.val := by exact_mod_cast this
          exact absurd hj (not_lt.mpr this))
    rw [← this]

/-- The pairs a row's arg-min goes over. -/
theorem mem_fiber {α β : Type} {M K : ℕ} (x : (⟨2, ![M, K]⟩ : Shape).Idx → α) (y : (⟨2, ![M, K]⟩ : Shape).Idx → β)
    (h : (⟨2, ![M, K]⟩ : Shape).ReducesTo [1] ⟨1, ![M]⟩) (n : Fin M) (p : α × β) :
    p ∈ Host.argReduceFiber x y h (ix1 n) ↔ ∃ k : Fin K, p = (x (ix2 n k), y (ix2 n k)) := by
  have hd : ∀ i : (⟨2, ![M, K]⟩ : Shape).Idx, (h.drop i 0).val = (i 0).val := fun i => rfl
  unfold Host.argReduceFiber
  simp only [List.mem_map, List.mem_filter, List.mem_finRange, true_and, decide_eq_true_eq]
  constructor
  · rintro ⟨i, hi, rfl⟩
    generalize (⟨2, ![M, K]⟩ : Shape).rowMajor.symm i = q at hi
    have h0 : (q 0).val = n.val := (hd q).symm.trans (congrArg (fun j => (j 0).val) hi)
    have e : q = ix2 n (q 1 : Fin K) := by
      funext a
      match a with
      | ⟨0, _⟩ => exact Fin.ext h0
      | ⟨1, _⟩ => rfl
    exact ⟨(q 1 : Fin K), Prod.ext (congrArg x e) (congrArg y e)⟩
  · rintro ⟨k, rfl⟩
    refine ⟨(⟨2, ![M, K]⟩ : Shape).rowMajor (ix2 n k), ?_, ?_⟩
    · rw [Equiv.symm_apply_apply]
      funext a
      obtain rfl : a = 0 := Subsingleton.elim _ _
      exact Fin.ext (hd _)
    · rw [Equiv.symm_apply_apply]

/-- The arg-min of a row of an array with any number of rows. -/
theorem argmin_apply {M : ℕ} {u : Shape} (d : FVec Ideal ⟨2, ![M, 512]⟩ .f32) (y : (⟨2, ![M, 512]⟩ : Shape).Idx → BitVec 32)
    (a : u.Idx → Ideal .f32) (b : u.Idx → BitVec 32)
    (h : (⟨2, ![M, 512]⟩ : Shape).ReducesTo [1] ⟨1, ![M]⟩) (hu : 0 < u.numel) (ha : ∀ i, a i = (⊤ : EReal)) (hb : ∀ i, b i = 0#32)
    (n : Fin M) (hy : ∀ k : Fin 512, y (ix2 n k) = BitVec.ofNat 32 k.val) :
    (Host.argReduce reducer_argmin_f32_i32 d y a b h hu (ix1 n)).2 = BitVec.ofNat 32 (pick fun k => d (ix2 n k)).val := by
  rw [Ideal.argReduce_eq_reduce2, Host.reduce2_eq_foldl_fiber, ha, hb]
  refine fold_pick (fun k => d (ix2 n k)) _ fun p => (mem_fiber _ _ _ n p).trans ?_
  simp only [hy]

/-- The second part of a function into pairs, at a place. -/
theorem snd_of {ι α β : Type} (f : ι → β) (g : ι → α × β) (h : f = fun j => (g j).2) (j : ι) : f j = (g j).2 := by rw [h]

/-- The pairwise minimum over a row ends at the first least position. -/
theorem argmin_9216 (d : FVec Ideal S9216x512 .f32) (n : Fin 9216) (a : S_.Idx → Ideal .f32) (b : S_.Idx → BitVec 32)
    (y : S9216x512.Idx → BitVec 32) (ha : ∀ i, a i = (⊤ : EReal)) (hb : ∀ i, b i = 0#32)
    (hy : ∀ k : Fin 512, y (ix2 n k) = BitVec.ofNat 32 k.val) :
    (Host.argReduce reducer_argmin_f32_i32 d y a b reducesTo_S9216x512_S9216_d1 h_S_ (ix1 n)).2
      = BitVec.ofNat 32 (pick fun k => d (ix2 n k)).val :=
  argmin_apply d y a b _ _ ha hb n hy

/-- The reference's arg-min of a row is its first least position. -/
theorem nearest_apply (d : FVec Ideal S9216x512 .f32) (n : Fin 9216) :
    nearest d (ix1 n) = BitVec.ofNat 32 (pick fun k => d (ix2 n k)).val :=
  (snd_of (nearest d) (Host.argReduce reducer_argmin_f32_i32 d (iotaInDim S9216x512 32 1) (constant S_ .f32 0x7F800000#32)
    (constantI S_ 32 0#32) reducesTo_S9216x512_S9216_d1 h_S_) (by unfold nearest; exact rfl) (ix1 n)).trans
    (argmin_9216 d n _ _ _ (fun _ => Consts.word_top) (fun _ => rfl) fun _ => rfl)

end Cert.Proof.RefTerms

end
-- ==== Proof.RefValue.lean ====
/-
  The reference's terms over the extended reals, row by row: its distances, its first nearest code by an arg-min, the
  codebook's row looked up, and the votes of the codes.
-/
module

public import proofs.«01_k».proof.Proof.RefArgmin
public import proofs.«01_k».proof.Proof.Nearest
public import proofs.«01_k».proof.Proof.Consts
public import Idealize.ShloMosaic.Lib.Routing.Ops

@[expose] public section

noncomputable section

namespace Cert.Proof.RefTerms

open Cert.ReferenceIdeal Cert.ReferenceIdeal.Gen Cert.Proof.Nearest
open Idealize.ShloMosaic

/-- The codebook of an array of codes, and a row of an array of rows. -/
def bookOf (B : FVec Ideal S512x256 .f32) : Book := fun k d => B (ix2 k d)

/-- Row `n` of an array of rows. -/
def rowAt (r : FVec Ideal S9216x256 .f32) (n : Fin 9216) : Row := fun d => r (ix2 n d)

/-- The reference's distance of a row to a code. -/
theorem distances_apply (B : FVec Ideal S512x256 .f32) (hB : Finite (bookOf B)) (r : FVec Ideal S9216x256 .f32) (n : Fin 9216) (k : Fin 512) :
    distances B r (ix2 n k) = gap (bookOf B) (rowAt r n) k := by
  pointwise [distances, dot_S9216x256_S256x512_S9216x512_1_0_0_1_n_n]
  rw [Consts.word_2]
  unfold gap
  refine congrArg₂ _ (congrArg₂ _ ?_ (Finset.sum_congr rfl fun d _ => ?_)) ?_
  · first | rfl | (rw [Ideal.ofBits_zero_f32, zero_add]; rfl)
  · obtain ⟨c, hc⟩ := hB k d
    show _ * B (ix2 k d) = _ * (bookOf B k d + bookOf B k d)
    rw [show B (ix2 k d) = c from hc, hc]
    exact double ⟨c, rfl⟩ (rowAt r n d)
  · first | rfl | (rw [Ideal.ofBits_zero_f32, zero_add]; rfl)

/-- The codes of the rows. -/
theorem codes_apply (B : FVec Ideal S512x256 .f32) (hB : Finite (bookOf B)) (r : FVec Ideal S9216x256 .f32) (n : Fin 9216) :
    codes B r (ix1 n) = BitVec.ofNat 32 (code (bookOf B) (rowAt r n)).val := by
  rw [codes, nearest_apply]
  unfold code
  simp only [distances_apply B hB]

/-! ### The row looked up -/

/-- A position in range is looked up as it is, not counted from the end. -/
theorem wrapped_apply (i : IVec S9216 32) (n : Fin 9216) (k : Fin 512) (h : i (ix1 n) = BitVec.ofNat 32 k.val) :
    wrapped i (ix2 n 0) = BitVec.ofNat 32 k.val := by
  pointwise [wrapped, h]
  have : ¬ (BitVec.ofNat 32 k.val).toInt < (0#32).toInt := by rw [toInt_of]; simp
  simp only [IntOp.cmpi, BitVec.slt, this, decide_false, Scalar.select]
  rfl

/-- A code's position is in range. -/
theorem inRange_apply (i : IVec S9216x1 32) (n : Fin 9216) (k : Fin 512) (h : i (ix2 n 0) = BitVec.ofNat 32 k.val) :
    inRange i (ix1 n) = 1#1 := by
  have h0 : IntOp.cmpi .sge (BitVec.ofNat 32 k.val) 0#32 = 1#1 := by
    have : (0#32).toInt ≤ (BitVec.ofNat 32 k.val).toInt := by rw [toInt_of]; simp
    simp only [IntOp.cmpi, BitVec.sle, this, decide_true]; rfl
  have h1 : IntOp.cmpi .sle (BitVec.ofNat 32 k.val) 511#32 = 1#1 := by
    have : (BitVec.ofNat 32 k.val).toInt ≤ (511#32).toInt := by
      rw [toInt_of, show (511#32).toInt = 511 from rfl]; have := k.isLt; omega
    simp only [IntOp.cmpi, BitVec.sle, this, decide_true]; rfl
  pointwise [inRange]
  rw [Finset.univ_unique, Finset.fold_singleton, show i (ix2 n default) = _ from h, h0, h1]
  rfl

/-- The row looked up for a code's position is that code. -/
theorem looked_apply (B : FVec Ideal S512x256 .f32) (i : IVec S9216 32) (n : Fin 9216) (d : Fin 256) (k : Fin 512)
    (h : i (ix1 n) = BitVec.ofNat 32 k.val) : looked B i (ix2 n d) = bookOf B k d := by
  have hw := wrapped_apply i n k h
  have hg : Host.gather gather_S512x256_S9216x1_S9216x256_1_0_n_n_0_1_1256 B (wrapped i) (ix2 n d) = B (ix2 k d) :=
    Routing.gather_row _ rfl rfl rfl rfl rfl B (wrapped i) n d k hw (by norm_num)
  pointwise [looked]
  rw [inRange_apply _ n k hw, hg]
  rfl

/-! ### The votes -/

/-- The one-hot entry of a code's position. -/
theorem hots_apply (i : IVec S9216 32) (n : Fin 9216) (k p : Fin 512) (h : i (ix1 n) = BitVec.ofNat 32 p.val) :
    hots (F := Ideal) i (ix2 n k) = if k = p then (1 : EReal) else 0 := by
  pointwise [hots, h]
  refine (Consts.uitofp_cond _).trans (if_congr ?_ rfl rfl)
  rw [beq_iff_eq]
  constructor
  · intro e
    have := congrArg BitVec.toInt e
    rw [toInt_of, toInt_of] at this
    exact Fin.ext (by exact_mod_cast this.symm)
  · rintro rfl; rfl

/-- The usage that one quantiser adds: how many rows chose the code, over the number of rows. -/
theorem usage_apply (u : FVec Ideal S512 .f32) (i : IVec S9216 32) (p : Fin 9216 → Fin 512) (h : ∀ n, i (ix1 n) = BitVec.ofNat 32 (p n).val)
    (k : Fin 512) : usage u i (ix1 k) = u (ix1 k) + Ideal.div (∑ n : Fin 9216, if k = p n then (1 : EReal) else 0) ((9216 : ℝ) : EReal) := by
  pointwise [usage]
  rw [Consts.word_9216]
  simp only [fun n => hots_apply i n k (p n) (h n)]

end Cert.Proof.RefTerms

end
-- ==== Proof.RefRows.lean ====
/-
  The reference's rows over the extended reals: what is left of each row, its codes, its sum of codes, and the usage.
-/
module

public import proofs.«01_k».proof.Proof.RefValue
public import proofs.«01_k».proof.Proof.RefTails

@[expose] public section

noncomputable section

namespace Cert.Proof.RefTerms

open Cert.ReferenceIdeal Cert.ReferenceIdeal.Gen Cert.Proof.Nearest
open Idealize.ShloMosaic

/-- The four codebooks. -/
def shelf (C : FVec Ideal S4x512x256 .f32) (s : ℕ) : Book := fun k d => C (ix3 (Fin.ofNat 4 s) k d)

/-- The first codebook is the first slice of the array. -/
theorem book0_eq (C : FVec Ideal S4x512x256 .f32) : bookOf (codebook C 0) = shelf C 0 := by
  funext k d
  unfold bookOf shelf
  pointwise [codebook, book0]
  first | done | rfl

/-- The second codebook is the second slice. -/
theorem book1_eq (C : FVec Ideal S4x512x256 .f32) : bookOf (codebook C 1) = shelf C 1 := by
  funext k d
  unfold bookOf shelf
  pointwise [codebook, book1]
  first | done | rfl

/-- The third codebook is the third slice. -/
theorem book2_eq (C : FVec Ideal S4x512x256 .f32) : bookOf (codebook C 2) = shelf C 2 := by
  funext k d
  unfold bookOf shelf
  pointwise [codebook, book2]
  first | done | rfl

/-- The fourth codebook is the fourth slice. -/
theorem book3_eq (C : FVec Ideal S4x512x256 .f32) : bookOf (codebook C 3) = shelf C 3 := by
  funext k d
  unfold bookOf shelf
  pointwise [codebook, book3]
  first | done | rfl

variable (C : FVec Ideal S4x512x256 .f32) (hC : ∀ s, Finite (shelf C s)) (z : FVec Ideal S9216x256 .f32)

/-- Codebook `s` is slice `s`. -/
theorem book_eq (s : ℕ) (hs : s < 4) : bookOf (codebook C s) = shelf C s := by
  match s, hs with
  | 0, _ => exact book0_eq C
  | 1, _ => exact book1_eq C
  | 2, _ => exact book2_eq C
  | 3, _ => exact book3_eq C

include hC

/-- The code that quantiser `s` chooses for a row. -/
theorem code_at (s : ℕ) (hs : s < 4) (r : FVec Ideal S9216x256 .f32) (n : Fin 9216) :
    codes (codebook C s) r (ix1 n) = BitVec.ofNat 32 (code (shelf C s) (rowAt r n)).val := by
  rw [codes_apply _ (by rw [book_eq C s hs]; exact hC s), book_eq C s hs]

/-- The row looked up for it is the code itself. -/
theorem looked_at (s : ℕ) (hs : s < 4) (r : FVec Ideal S9216x256 .f32) (n : Fin 9216) (d : Fin 256) :
    looked (codebook C s) (codes (codebook C s) r) (ix2 n d) = shelf C s (code (shelf C s) (rowAt r n)) d := by
  rw [looked_apply _ _ n d _ (code_at C hC s hs r n), book_eq C s hs]

/-- What is left of row `n` before quantiser `s`. -/
theorem rest_row (n : Fin 9216) : ∀ s, s ≤ 4 → rowAt (restOf C z s) n = left (shelf C) (rowAt z n) s
  | 0, _ => rfl
  | s + 1, hs => by
    rw [left_succ, ← rest_row n s (by omega)]
    funext d
    exact congrArg (rowAt (restOf C z s) n d - ·) (looked_at C hC s (by omega) (restOf C z s) n d)

/-- The code of a row at quantiser `s`. -/
theorem codesOf_apply (s : ℕ) (hs : s < 4) (n : Fin 9216) :
    codesOf C z s (ix1 n) = BitVec.ofNat 32 (digit (shelf C) (rowAt z n) s).val := by
  rw [codesOf, code_at C hC s hs, rest_row C hC z n s (by omega)]
  rfl

/-- One quantiser more adds its code to the running sum. -/
theorem sumOf_succ (s : ℕ) (hs : s < 4) (n : Fin 9216) (d : Fin 256) : sumOf C z (s + 1) (ix2 n d)
    = sumOf C z s (ix2 n d) + shelf C s (digit (shelf C) (rowAt z n) s) d := by
  refine congrArg (sumOf C z s (ix2 n d) + ·) ?_
  rw [looked_at C hC s hs, rest_row C hC z n s (by omega)]
  rfl

/-- The running sum at the end is the sum of the four codes. -/
theorem sumOf_apply (n : Fin 9216) (d : Fin 256) : sumOf C z 4 (ix2 n d) = total (shelf C) (rowAt z n) d := by
  rw [sumOf_succ C hC z 3 (by omega), sumOf_succ C hC z 2 (by omega), sumOf_succ C hC z 1 (by omega), sumOf_succ C hC z 0 (by omega)]
  have : sumOf C z 0 (ix2 n d) = 0 := Ideal.ofBits_zero_f32
  rw [this]
  rfl

/-- One quantiser more adds the mean of its one-hot rows to the usage. -/
theorem usageOf_succ (s : ℕ) (hs : s < 4) (k : Fin 512) : usageOf C z (s + 1) (ix1 k)
    = usageOf C z s (ix1 k) + Ideal.div (times (shelf C) (rowAt z) s k) ((9216 : ℝ) : EReal) :=
  usage_apply _ _ (fun n => digit (shelf C) (rowAt z n) s) (fun n => codesOf_apply C hC z s hs n) k

/-- The mean usage of a code is how often it is chosen over the number of codes chosen. -/
theorem meanUsage_apply (k : Fin 512) : meanUsage (usageOf C z 4) (ix1 k)
    = (((times (shelf C) (rowAt z) 0 k + times (shelf C) (rowAt z) 1 k) + times (shelf C) (rowAt z) 2 k) + times (shelf C) (rowAt z) 3 k)
      * ((1/36864 : ℝ) : EReal) := by
  rw [← usage_eq]
  have h0 : usageOf C z 0 (ix1 k) = 0 := Ideal.ofBits_zero_f32
  rw [← h0, ← usageOf_succ C hC z 0 (by omega), ← usageOf_succ C hC z 1 (by omega), ← usageOf_succ C hC z 2 (by omega),
    ← usageOf_succ C hC z 3 (by omega), ← Consts.word_4]
  rfl

/-- The straight-through row is the row less what four quantisers leave of it. -/
theorem through_apply (n : Fin 9216) (d : Fin 256) : through z (sumOf C z 4) (ix2 n d) = z (ix2 n d) - left (shelf C) (rowAt z n) 4 d := by
  refine Eq.trans ?_ (straight (shelf C) hC (rowAt z n) d).symm
  rw [← sumOf_apply C hC z n d]
  rfl

/-- The composed index of a row. -/
theorem composed_apply (n : Fin 9216) :
    composedIndex (codesOf C z 0) (codesOf C z 1) (codesOf C z 2) (codesOf C z 3) (ix1 n) = compose (shelf C) (rowAt z n) := by
  unfold compose
  rw [← codesOf_apply C hC z 0 (by omega), ← codesOf_apply C hC z 1 (by omega), ← codesOf_apply C hC z 2 (by omega), ← codesOf_apply C hC z 3 (by omega)]
  rfl

end Cert.Proof.RefTerms

end
-- ==== Proof.Equal.lean ====
/-
  The kernel's six results and the reference's are the same arrays, where the codebooks are finite.
-/
module

public import proofs.«01_k».proof.Proof.KernelArray
public import proofs.«01_k».proof.Proof.RefRows

@[expose] public section

set_option maxRecDepth 8192

noncomputable section

namespace Cert.Proof.Equal

open Cert.KernelIdeal Cert.KernelIdeal.Gen Cert.Proof.Nearest Cert.Proof.KernelStage
open Idealize.ShloMosaic

/-! ### The sums over all the rows -/

variable (C : ℕ → Book) (Z : Vec Ideal S9216x256 .f32)

/-- Row `x` of the lower half of block `i` is row `1536 i + x` of the latents. -/
theorem row_low (i : ℕ) (hi : i < 6) (x : Fin 768) :
    rowOf (blockAt Z i) (low x) = rowIn Z ⟨x.val + 1536 * i, by omega⟩ := by
  rw [rowOf_blockAt]
  refine congrArg (rowIn Z) (Fin.ext ?_)
  show (i * 1536 + x.val) % 9216 = x.val + 1536 * i
  rw [Nat.mod_eq_of_lt (by omega)]; omega

/-- Row `x` of the upper half of block `i` is row `1536 i + 768 + x` of the latents. -/
theorem row_high (i : ℕ) (hi : i < 6) (x : Fin 768) :
    rowOf (blockAt Z i) (high x) = rowIn Z ⟨768 + x.val + 1536 * i, by omega⟩ := by
  rw [rowOf_blockAt]
  refine congrArg (rowIn Z) (Fin.ext ?_)
  show (i * 1536 + (768 + x.val)) % 9216 = 768 + x.val + 1536 * i
  rw [Nat.mod_eq_of_lt (by omega)]; omega

/-- The squared error of the six blocks is the sum over all the rows. -/
theorem error_all : errorTo C Z 6 = ∑ n : Fin 9216, ∑ d, left C (rowIn Z n) 4 d * left C (rowIn Z n) 4 d := by
  rw [sum_rows, errorTo, Finset.sum_range]
  refine Finset.sum_congr rfl fun i _ => Finset.sum_congr rfl fun x _ => ?_
  rw [row_low Z i.val i.isLt x, row_high Z i.val i.isLt x]

/-- The votes of the six blocks are, quantiser by quantiser, how many rows chose the code. -/
theorem votes_all (k : Fin 512) : votesTo C Z 6 k
    = ((Nearest.times C (rowIn Z) 0 k + Nearest.times C (rowIn Z) 1 k) + Nearest.times C (rowIn Z) 2 k) + Nearest.times C (rowIn Z) 3 k := by
  unfold Nearest.times
  rw [← Finset.sum_add_distrib, ← Finset.sum_add_distrib, ← Finset.sum_add_distrib]
  rw [sum_rows, votesTo, Finset.sum_range]
  refine Finset.sum_congr rfl fun i _ => Finset.sum_congr rfl fun x _ => ?_
  rw [row_low Z i.val i.isLt x, row_high Z i.val i.isLt x]
  rfl

/-- The first named constant is one over the number of entries. -/
theorem inv_entries : Named.named (F := Ideal) κ "inv_entries" (φ := .f32) 0x34E38E39#32 = ((1/2359296 : ℝ) : EReal) :=
  IdealRules.named_const.ideal_named_scalar _ _ _ _ rfl

/-- The second named constant is one over the number of codes chosen. -/
theorem inv_codes : Named.named (F := Ideal) κ "inv_codes" (φ := .f32) 0x37E38E39#32 = ((1/36864 : ℝ) : EReal) :=
  IdealRules.named_const.ideal_named_scalar _ _ _ _ rfl

/-- One of four words by its place. -/
theorem one_of_four (s : Fin 4) (a0 a1 a2 a3 : BitVec 32) (f : ℕ → BitVec 32) (h0 : a0 = f 0) (h1 : a1 = f 1) (h2 : a2 = f 2) (h3 : a3 = f 3) :
    f s.val = if _h : s.val < 1 then a0 else if _h : s.val - 1 < 1 then a1 else if _h : s.val - 1 - 1 < 1 then a2 else a3 := by
  subst h0 h1 h2 h3
  fin_cases s <;> rfl

/-- The codes at quantiser `s` and position `a`, `b`, in either arrangement. -/
theorem digits_apply (D : Vec Ideal S9216x4 .i32) (s : Fin 4) (a : Fin 16) (b : Fin 576) :
    shapeCast S4x16x576 (transpose S4x9216 [1, 0] D transposes_S9216x4_S4x9216_1_0) shapeCasts_S4x9216_S4x16x576 (ix3 s a b)
      = D (ix2 ⟨a.val * 576 + b.val, by omega⟩ s) := by
  pointwise

/-- An entry of the reference's stacked digits is that of the plane of its quantiser. -/
theorem planes_apply (c0 c1 c2 c3 : IVec Cert.ReferenceIdeal.S9216 32) (s : Fin 4) (a : Fin 16) (b : Fin 576) :
    RefTerms.planes c0 c1 c2 c3 (ix3 s a b)
      = if _h : s.val < 1 then c0 (ix1 ⟨a.val * 576 + b.val, by omega⟩) else if _h : s.val - 1 < 1 then c1 (ix1 ⟨a.val * 576 + b.val, by omega⟩)
        else if _h : s.val - 1 - 1 < 1 then c2 (ix1 ⟨a.val * 576 + b.val, by omega⟩) else c3 (ix1 ⟨a.val * 576 + b.val, by omega⟩) := by
  pointwise [RefTerms.planes, RefTerms.plane]

/-! ### The results -/

variable (B : Vec Ideal S4x512x256 .f32) (hB : ∀ s, Finite (books B s))
include hB

/-- The first result: the straight-through rows agree. -/
theorem straight_eq : straightRows (books B) Z = RefTerms.through (F := Ideal) Z (RefTerms.sumOf (F := Ideal) B Z 4) := by
  funext y
  obtain ⟨n, d, rfl⟩ : ∃ n d, y = ix2 n d := ⟨y 0, y 1, by funext a; fin_cases a <;> rfl⟩
  exact (RefTerms.through_apply B hB Z n d).symm

/-- The second result: the composed indices agree. -/
theorem index_eq : shapeCast S16x576 (composedRows (books B) Z) shapeCasts_S9216x1_S16x576
    = shapeCast S16x576 (RefTerms.composedIndex (RefTerms.codesOf (F := Ideal) B Z 0) (RefTerms.codesOf (F := Ideal) B Z 1) (RefTerms.codesOf (F := Ideal) B Z 2) (RefTerms.codesOf (F := Ideal) B Z 3))
      Cert.ReferenceIdeal.Gen.shapeCasts_S9216_S16x576 := by
  funext y
  obtain ⟨a, b, rfl⟩ : ∃ a b, y = ix2 a b := ⟨y 0, y 1, by funext a; fin_cases a <;> rfl⟩
  pointwise
  exact (RefTerms.composed_apply B hB Z _).symm

/-- The third result: the digits agree. -/
theorem digits_eq : shapeCast S4x16x576 (transpose S4x9216 [1, 0] (digitRows (books B) Z) transposes_S9216x4_S4x9216_1_0) shapeCasts_S4x9216_S4x16x576
    = RefTerms.planes (RefTerms.codesOf (F := Ideal) B Z 0) (RefTerms.codesOf (F := Ideal) B Z 1) (RefTerms.codesOf (F := Ideal) B Z 2) (RefTerms.codesOf (F := Ideal) B Z 3) := by
  funext y
  obtain ⟨s, a, b, rfl⟩ : ∃ s a b, y = ix3 s a b := ⟨y 0, y 1, y 2, by funext a; fin_cases a <;> rfl⟩
  rw [digits_apply, planes_apply]
  exact one_of_four s _ _ _ _ (fun s => BitVec.ofNat 32 (digit (books B) (rowIn Z ⟨a.val * 576 + b.val, by omega⟩) s).val)
    (RefTerms.codesOf_apply B hB Z 0 (by omega) _) (RefTerms.codesOf_apply B hB Z 1 (by omega) _)
    (RefTerms.codesOf_apply B hB Z 2 (by omega) _) (RefTerms.codesOf_apply B hB Z 3 (by omega) _)

/-- The fifth result: the losses agree. -/
theorem loss_eq : shapeCast S_ (k0_pay2 (allError (books B) Z)) shapeCasts_S1x1_S_ = RefTerms.loss (F := Ideal) Z (RefTerms.sumOf (F := Ideal) B Z 4) := by
  funext j
  have hs : (∑ n : Fin 9216, ∑ d : Fin 256, (Z (ix2 n d) - RefTerms.sumOf (F := Ideal) B Z 4 (ix2 n d)) * (Z (ix2 n d) - RefTerms.sumOf (F := Ideal) B Z 4 (ix2 n d)))
      = errorTo (books B) Z 6 := by
    rw [error_all]
    refine Finset.sum_congr rfl fun n _ => Finset.sum_congr rfl fun d _ => ?_
    rw [RefTerms.sumOf_apply B hB Z n d]
    exact square (books B) hB (rowIn Z n) d
  pointwise [k0_pay2, RefTerms.loss, RefTerms.meanSquare]
  rw [hs, inv_entries, Consts.word_five_quarters, Consts.word_quarter, Consts.word_entries, quarter,
    Ideal.div_coe (show (2359296 : ℝ) ≠ 0 by norm_num)]
  rfl

/-- The sixth result: the perplexities agree. -/
theorem perplexity_eq : shapeCast S_ (k0_pay1 (allVotes (books B) Z)) shapeCasts_S1x1_S_ = RefTerms.perplexity (F := Ideal) (RefTerms.usageOf (F := Ideal) B Z 4) := by
  funext j
  have hu : ∀ k : Fin 512, RefTerms.meanUsage (F := Ideal) (RefTerms.usageOf (F := Ideal) B Z 4) (ix1 k) = allVotes (books B) Z (ix2 0 k) * ((1/36864 : ℝ) : EReal) := by
    intro k
    rw [RefTerms.meanUsage_apply B hB Z k]
    show _ = votesTo (books B) Z 6 k * _
    rw [votes_all]
    rfl
  pointwise [k0_pay1, RefTerms.perplexity]
  simp only [hu, inv_codes]
  rw [zero_sub, Finset.univ_unique, Finset.sum_singleton]
  rfl

end Cert.Proof.Equal

end
-- ==== Proof.FiniteBooks.lean ====
/-
  The precondition read at the extended reals: every entry of every codebook is a real number.
-/
module

public import proofs.«01_k».proof.Pre_finite_codebooks
public import proofs.«01_k».proof.Proof.Nearest
public import proofs.«01_k».proof.Proof.Consts

@[expose] public section

noncomputable section

namespace Cert.Proof.FiniteBooks

open Cert.Pre_finite_codebooks Cert.Proof.Nearest
open Idealize.ShloMosaic

/-- The side conditions of the precondition's printed program. -/
theorem facts : Cert.Pre_finite_codebooks.Facts := ⟨by decide⟩

attribute [local instance] facts

/-- A value whose magnitude is below the infinite one is a real number. -/
theorem real_of_lt (x : EReal) (h : max x (-x) < ⊤) : ∃ c : ℝ, x = (c : EReal) := by
  induction x with
  | bot => simp at h
  | top => simp at h
  | coe c => exact ⟨c, rfl⟩

/-- Where the precondition holds, every entry of every codebook is a real number. -/
theorem entry (x : FVec Ideal S16x576x256 .f32) (C : FVec Ideal S4x512x256 .f32) (w : FVec Ideal S256 .f32)
    (h : fn x C w = fun _ => 1#1) (s : Fin 4) (k : Fin 512) (d : Fin 256) : ∃ c : ℝ, C (ix3 s k d) = (c : EReal) := by
  have e : fn x C w (ix3 s k d) = 1#1 := by rw [h]
  revert e
  pointwise [fn]
  rw [Consts.word_top]
  intro e
  refine real_of_lt _ ?_
  by_contra hn
  rw [show (FloatOps.absf (C (ix3 s k d)) : EReal) = max (C (ix3 s k d)) (-C (ix3 s k d)) from rfl, decide_eq_false hn] at e
  exact absurd e (by decide)

/-- The codebooks are finite. -/
theorem finite (x : FVec Ideal S16x576x256 .f32) (C : FVec Ideal S4x512x256 .f32) (w : FVec Ideal S256 .f32)
    (h : fn x C w = fun _ => 1#1) (s : ℕ) : Finite fun k d => C (ix3 (Fin.ofNat 4 s) k d) :=
  fun k d => entry x C w h _ k d

end Cert.Proof.FiniteBooks

end
-- ==== Proof.lean ====
/-
  The proof of the claim: the kernel's frames and its two named constants, the reference's frame, and the equality of the
  six results over the extended reals where the codebooks are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefFinal
public import proofs.«01_k».proof.Proof.Equal
public import proofs.«01_k».proof.Proof.FiniteBooks
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

attribute [local instance] FiniteBooks.facts

section Reference

open Cert.ReferenceIdeal Cert.ReferenceIdeal.Gen RefOps RefTerms RefFinal

variable (m : (ℓ : Loc nD τ sig) → Buf (Elt Ideal) ℓ) (ρ : Dev nD → PrngReg)

/-- The reference's six results and its arguments after its run. -/
theorem reference_run :
    θ_run defs (onTc (τ := τ) (main (F := Ideal))) ⟨m, fun _ => 0, ρ⟩ fun r => ∀ c : Dev nD,
      r.2.mem ((c.tc : Thread nD τ).loc main_v115) = after line (launchContents m c) (main_v115 : DevRef τ sig)
      ∧ r.2.mem ((c.tc : Thread nD τ).loc main_v138) = after line (launchContents m c) (main_v138 : DevRef τ sig)
      ∧ r.2.mem ((c.tc : Thread nD τ).loc main_v147) = after line (launchContents m c) (main_v147 : DevRef τ sig)
      ∧ r.2.mem ((c.tc : Thread nD τ).loc main_v148) = after line (launchContents m c) (main_v148 : DevRef τ sig)
      ∧ r.2.mem ((c.tc : Thread nD τ).loc main_v112) = after line (launchContents m c) (main_v112 : DevRef τ sig)
      ∧ r.2.mem ((c.tc : Thread nD τ).loc main_v124) = after line (launchContents m c) (main_v124 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v115, h c main_v138, h c main_v147, h c main_v148, h c main_v112, h c main_v124,
    (h c main_arg0).trans (line_keep _ main_arg0 (by decide) (by decide) (by decide) (by decide) (by decide) (by decide)),
    (h c main_arg1).trans (line_keep _ main_arg1 (by decide) (by decide) (by decide) (by decide) (by decide) (by decide)),
    (h c main_arg2).trans (line_keep _ main_arg2 (by decide) (by decide) (by decide) (by decide) (by decide) (by decide))⟩)
    (line_run m ρ)

theorem reference_frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2.2.2.2.2, sem_eq_zero_of_no_sems (by decide) r.2⟩) (reference_run m ρ)

end Reference

/-- The two named constants are the words the kernel carries. -/
theorem preserves : Cert.preserves_Kernel_KernelIdeal :=
  ⟨IdealRules.named_const.statement Cert.KernelIdeal.κ "inv_codes" .f32 0x37E38E39#32 ((1 / 36864 : ℝ) : EReal) rfl,
    IdealRules.named_const.statement Cert.KernelIdeal.κ "inv_entries" .f32 0x34E38E39#32 ((1 / 2359296 : ℝ) : EReal) rfl⟩

attribute [local instance] Cert.KernelIdeal.Gen.facts Cert.ReferenceIdeal.Gen.facts

/-- The kernel and the reference end with equal results. -/
theorem algebraic : Cert.algebraic_KernelIdeal_ReferenceIdeal_pre_finite_codebooks := by
  intro m g m' g' hpre hargs
  have hB : ∀ c s, Nearest.Finite (KernelStage.shelf m c s) := fun c s => FiniteBooks.finite _ _ _ (hpre c) s
  refine ⟨fun c => shapeCast _ (KernelStage.straightRows (KernelStage.shelf m c) (KernelStage.latents m c)) Cert.KernelIdeal.Gen.shapeCasts_S9216x256_S16x576x256,
    fun c => shapeCast _ (KernelStage.composedRows (KernelStage.shelf m c) (KernelStage.latents m c)) Cert.KernelIdeal.Gen.shapeCasts_S9216x1_S16x576,
    fun c => shapeCast _ (transpose Cert.KernelIdeal.S4x9216 [1, 0] (KernelStage.digitRows (KernelStage.shelf m c) (KernelStage.latents m c))
      Cert.KernelIdeal.Gen.transposes_S9216x4_S4x9216_1_0) Cert.KernelIdeal.Gen.shapeCasts_S4x9216_S4x16x576,
    fun _ => broadcastInDim Cert.KernelIdeal.S16x576 ![] Cert.KernelIdeal.Gen.bcast_S_S16x576 (constantI Cert.KernelIdeal.S_ 1 0#1),
    fun c => shapeCast _ (Cert.KernelIdeal.Gen.k0_pay2 (KernelStage.allError (KernelStage.shelf m c) (KernelStage.latents m c))) Cert.KernelIdeal.Gen.shapeCasts_S1x1_S_,
    fun c => shapeCast _ (Cert.KernelIdeal.Gen.k0_pay1 (KernelStage.allVotes (KernelStage.shelf m c) (KernelStage.latents m c))) Cert.KernelIdeal.Gen.shapeCasts_S1x1_S_,
    (θ_run _ _ _).mono (fun r h c => ?_)
    (θ_run_and (KernelStage.run m g fun c s _ => hB c s) (Cert.KernelIdeal.Gen.unchanged m g)),
    (θ_run _ _ _).mono (fun r h c => ?_) (reference_run m' g')⟩
  · exact ⟨(h.1 c).1, (h.1 c).2.1, (h.1 c).2.2.1, (h.1 c).2.2.2.1, (h.1 c).2.2.2.2.1, (h.1 c).2.2.2.2.2, h.2 c⟩
  · obtain ⟨h0, h1, h2, h3, h4, h5, ha⟩ := h c
    obtain ⟨e0, e1, -⟩ := hargs c
    have z : RefFinal.z₀ (launchContents m' c) = KernelStage.latents m c := congrArg (RefTerms.rows (F := Ideal)) e0
    have C : RefFinal.C₀ (launchContents m' c) = m ((c.tc : Thread _ _).loc Cert.KernelIdeal.main_arg1) := e1
    refine ⟨h0.trans ?_, h1.trans ?_, h2.trans ?_, h3.trans ?_, h4.trans ?_, h5.trans ?_, ha⟩
    · rw [RefFinal.line_v115, z, C]
      exact congrArg (shapeCast _ · Cert.KernelIdeal.Gen.shapeCasts_S9216x256_S16x576x256) (Equal.straight_eq _ _ (hB c)).symm
    · rw [RefFinal.line_v138, z, C]
      exact (Equal.index_eq _ _ (hB c)).symm
    · rw [RefFinal.line_v147, z, C]
      exact (Equal.digits_eq _ _ (hB c)).symm
    · exact RefFinal.line_v148 _
    · rw [RefFinal.line_v112, z, C]
      exact (Equal.loss_eq _ _ (hB c)).symm
    · rw [RefFinal.line_v124, z, C]
      exact (Equal.perplexity_eq _ _ (hB c)).symm

theorem claim : Cert.Claim :=
  ⟨Cert.Kernel.Gen.facts, Cert.KernelIdeal.Gen.facts, Cert.ReferenceIdeal.Gen.facts, FiniteBooks.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, preserves, algebraic⟩

end Cert.Proof

end
